-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v254) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S32x2048x1024 : Shape := ⟨3, ![32, 2048, 1024]⟩
abbrev S32x2048x512 : Shape := ⟨3, ![32, 2048, 512]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x512x1024 : Shape := ⟨3, ![2, 512, 1024]⟩
abbrev S1x1024 : Shape := ⟨2, ![1, 1024]⟩
abbrev S1x2816 : Shape := ⟨2, ![1, 2816]⟩
abbrev S1x512x1024 : Shape := ⟨3, ![1, 512, 1024]⟩
abbrev S1x16x1024 : Shape := ⟨3, ![1, 16, 1024]⟩
abbrev S1x512x512 : Shape := ⟨3, ![1, 512, 512]⟩
abbrev S1x16x512 : Shape := ⟨3, ![1, 16, 512]⟩
abbrev S1x1x1024 : Shape := ⟨3, ![1, 1, 1024]⟩
abbrev S512x2816 : Shape := ⟨2, ![512, 2816]⟩
abbrev S16x512 : Shape := ⟨2, ![16, 512]⟩
abbrev S512x512 : Shape := ⟨2, ![512, 512]⟩
abbrev S544x512 : Shape := ⟨2, ![544, 512]⟩
abbrev S512x1024 : Shape := ⟨2, ![512, 1024]⟩
abbrev S544x1024 : Shape := ⟨2, ![544, 1024]⟩
abbrev S16x1024 : Shape := ⟨2, ![16, 1024]⟩
abbrev S544 : Shape := ⟨1, ![544]⟩
abbrev S544x1 : Shape := ⟨2, ![544, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 22
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S2x512x1024, .f32⟩
  | .hbm, ⟨15, _⟩ => ⟨S2x512x1024, .bf16⟩
  | .hbm, ⟨16, _⟩ => ⟨S1x1024, .f32⟩
  | .hbm, ⟨17, _⟩ => ⟨S1024x5632, .bf16⟩
  | .hbm, ⟨18, _⟩ => ⟨S1x2816, .f32⟩
  | .hbm, ⟨19, _⟩ => ⟨S2816x1024, .bf16⟩
  | .hbm, ⟨20, _⟩ => ⟨S1x1024, .f32⟩
  | .hbm, ⟨21, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x1x1024, .f32⟩
  | .local _ .vmem, ⟨19, _⟩ => ⟨S1x1x1024, .f32⟩
  | .local _ .vmem, ⟨20, _⟩ => ⟨S2x512x1024, .bf16⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x5632, .bf16⟩
  | .local _ .vmem, ⟨29, _⟩ => ⟨S3x2816, .f32⟩
  | .local _ .vmem, ⟨30, _⟩ => ⟨S1x2816, .f32⟩
  | .local _ .vmem, ⟨31, _⟩ => ⟨S2816x1024, .bf16⟩
  | .local _ .vmem, ⟨32, _⟩ => ⟨S1x1024, .f32⟩
  | .local _ .vmem, ⟨33, _⟩ => ⟨S1x512x1024, .f32⟩
  | .local _ .vmem, ⟨34, _⟩ => ⟨S1x512x1024, .f32⟩
  | .local _ .vmem, ⟨35, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S32x2048x1024 : Shape := ⟨3, ![32, 2048, 1024]⟩
abbrev S32x2048x512 : Shape := ⟨3, ![32, 2048, 512]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S32x2047x2816 : Shape := ⟨3, ![32, 2047, 2816]⟩
abbrev S1x2816 : Shape := ⟨2, ![1, 2816]⟩
abbrev S1x1x2816 : Shape := ⟨3, ![1, 1, 2816]⟩

abbrev nBuf : Space → Nat
  | .hbm => 105
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S32x2048x512, .f32⟩
  | .hbm, ⟨15, _⟩ => ⟨S32x2048x512, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x5632, .f32⟩
  | .hbm, ⟨45, _⟩ => ⟨S32x2048x2816, .f32⟩
  | .hbm, ⟨46, _⟩ => ⟨S32x2048x2816, .f32⟩
  | .hbm, ⟨47, _⟩ => ⟨S32x2047x2816, .f32⟩
  | .hbm, ⟨48, _⟩ => ⟨S_, .i32⟩
  | .hbm, ⟨49, _⟩ => ⟨S_, .f32⟩
  | .hbm, ⟨50, _⟩ => ⟨S32x2048x2816, .f32⟩
  | .hbm, ⟨51, _⟩ => ⟨S32x2047x2816, .f32⟩
  | .hbm, ⟨52, _⟩ => ⟨S_, .i32⟩
  | .hbm, ⟨53, _⟩ => ⟨S_, .f32⟩
  | .hbm, ⟨54, _⟩ => ⟨S32x2048x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S32x2048x2816, .f32⟩
  | .hbm, ⟨59, _⟩ => ⟨S32x2048x2816, .f32⟩
  | .hbm, ⟨60, _⟩ => ⟨S1x2816, .f32⟩
  | .hbm, ⟨61, _⟩ => ⟨S2816, .f32⟩
  | .hbm, ⟨62, _⟩ => ⟨S1x1x2816, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S1x2816, .f32⟩
  | .hbm, ⟨67, _⟩ => ⟨S2816, .f32⟩
  | .hbm, ⟨68, _⟩ => ⟨S1x1x2816, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S1x1x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x2816, .f32⟩
  | .hbm, ⟨77, _⟩ => ⟨S_, .f32⟩
  | .hbm, ⟨78, _⟩ => ⟨S32x2048x2816, .f32⟩
  | .hbm, ⟨79, _⟩ => ⟨S32x2048x2816, .f32⟩
  | .hbm, ⟨80, _⟩ => ⟨S_, .f32⟩
  | .hbm, ⟨81, _⟩ => ⟨S32x2048x2816, .f32⟩
  | .hbm, ⟨82, _⟩ => ⟨S32x2048x2816, .f32⟩
  | .hbm, ⟨83, _⟩ => ⟨S32x2048x2816, .f32⟩
  | .hbm, ⟨84, _⟩ => ⟨S32x2048x2816, .f32⟩
  | .hbm, ⟨85, _⟩ => ⟨S32x2048x1024, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | .hbm, ⟨89, _⟩ => ⟨S32x2048x1024, .f32⟩
  | .hbm, ⟨90, _⟩ => ⟨S_, .f32⟩
  | .hbm, ⟨91, _⟩ => ⟨S32x2048, .f32⟩
  | .hbm, ⟨92, _⟩ => ⟨S32x2048x1, .f32⟩
  | .hbm, ⟨93, _⟩ => ⟨S_, .f32⟩
  | .hbm, ⟨94, _⟩ => ⟨S32x2048x1, .f32⟩
  | .hbm, ⟨95, _⟩ => ⟨S32x2048x1, .f32⟩
  | .hbm, ⟨96, _⟩ => ⟨S_, .f32⟩
  | .hbm, ⟨97, _⟩ => ⟨S32x2048x1, .f32⟩
  | .hbm, ⟨98, _⟩ => ⟨S32x2048x1, .f32⟩
  | .hbm, ⟨99, _⟩ => ⟨S32x2048x1, .f32⟩
  | .hbm, ⟨100, _⟩ => ⟨S32x2048x1024, .f32⟩
  | .hbm, ⟨101, _⟩ => ⟨S32x2048x1024, .f32⟩
  | .hbm, ⟨102, _⟩ => ⟨S1x1x1024, .f32⟩
  | .hbm, ⟨103, _⟩ => ⟨S32x2048x1024, .f32⟩
  | .hbm, ⟨104, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_4 : Ref sig .tc := ⟨.hbm, 90, rfl⟩
abbrev main_v60 : Ref sig .tc := ⟨.hbm, 91, rfl⟩
abbrev main_v61 : Ref sig .tc := ⟨.hbm, 92, rfl⟩
abbrev main_cst_5 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x512x1024 : Shape := ⟨3, ![2, 512, 1024]⟩
abbrev S1x1024 : Shape := ⟨2, ![1, 1024]⟩
abbrev S1x2816 : Shape := ⟨2, ![1, 2816]⟩
abbrev S1x512x1024 : Shape := ⟨3, ![1, 512, 1024]⟩
abbrev S1x16x1024 : Shape := ⟨3, ![1, 16, 1024]⟩
abbrev S1x512x512 : Shape := ⟨3, ![1, 512, 512]⟩
abbrev S1x16x512 : Shape := ⟨3, ![1, 16, 512]⟩
abbrev S1x1x1024 : Shape := ⟨3, ![1, 1, 1024]⟩
abbrev S512x2816 : Shape := ⟨2, ![512, 2816]⟩
abbrev S16x512 : Shape := ⟨2, ![16, 512]⟩
abbrev S512x512 : Shape := ⟨2, ![512, 512]⟩
abbrev S544x512 : Shape := ⟨2, ![544, 512]⟩
abbrev S512x1024 : Shape := ⟨2, ![512, 1024]⟩
abbrev S544x1024 : Shape := ⟨2, ![544, 1024]⟩
abbrev S16x1024 : Shape := ⟨2, ![16, 1024]⟩
abbrev S544 : Shape := ⟨1, ![544]⟩
abbrev S544x1 : Shape := ⟨2, ![544, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩

abbrev nBuf : Space → Nat
  | .hbm => 22
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S2x512x1024, .f32⟩
  | .hbm, ⟨15, _⟩ => ⟨S2x512x1024, .bf16⟩
  | .hbm, ⟨16, _⟩ => ⟨S1x1024, .f32⟩
  | .hbm, ⟨17, _⟩ => ⟨S1024x5632, .bf16⟩
  | .hbm, ⟨18, _⟩ => ⟨S1x2816, .f32⟩
  | .hbm, ⟨19, _⟩ => ⟨S2816x1024, .bf16⟩
  | .hbm, ⟨20, _⟩ => ⟨S1x1024, .f32⟩
  | .hbm, ⟨21, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x1x1024, .f32⟩
  | .local _ .vmem, ⟨19, _⟩ => ⟨S1x1x1024, .f32⟩
  | .local _ .vmem, ⟨20, _⟩ => ⟨S2x512x1024, .bf16⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x5632, .bf16⟩
  | .local _ .vmem, ⟨29, _⟩ => ⟨S3x2816, .f32⟩
  | .local _ .vmem, ⟨30, _⟩ => ⟨S1x2816, .f32⟩
  | .local _ .vmem, ⟨31, _⟩ => ⟨S2816x1024, .bf16⟩
  | .local _ .vmem, ⟨32, _⟩ => ⟨S1x1024, .f32⟩
  | .local _ .vmem, ⟨33, _⟩ => ⟨S1x512x1024, .f32⟩
  | .local _ .vmem, ⟨34, _⟩ => ⟨S1x512x1024, .f32⟩
  | .local _ .vmem, ⟨35, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S32x2048x1024 : Shape := ⟨3, ![32, 2048, 1024]⟩
abbrev S32x2048x512 : Shape := ⟨3, ![32, 2048, 512]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S32x2047x2816 : Shape := ⟨3, ![32, 2047, 2816]⟩
abbrev S1x2816 : Shape := ⟨2, ![1, 2816]⟩
abbrev S1x1x2816 : Shape := ⟨3, ![1, 1, 2816]⟩

abbrev nBuf : Space → Nat
  | .hbm => 89
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x1x1024, .f32⟩
  | .hbm, ⟨4, _⟩ => ⟨S1024x1024, .f32⟩
  | .hbm, ⟨5, _⟩ => ⟨S1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S32x2048x512, .f32⟩
  | .hbm, ⟨15, _⟩ => ⟨S32x2048x512, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x5632, .f32⟩
  | .hbm, ⟨45, _⟩ => ⟨S32x2048x2816, .f32⟩
  | .hbm, ⟨46, _⟩ => ⟨S32x2048x2816, .f32⟩
  | .hbm, ⟨47, _⟩ => ⟨S32x2047x2816, .f32⟩
  | .hbm, ⟨48, _⟩ => ⟨S_, .i32⟩
  | .hbm, ⟨49, _⟩ => ⟨S_, .f32⟩
  | .hbm, ⟨50, _⟩ => ⟨S32x2048x2816, .f32⟩
  | .hbm, ⟨51, _⟩ => ⟨S32x2047x2816, .f32⟩
  | .hbm, ⟨52, _⟩ => ⟨S_, .i32⟩
  | .hbm, ⟨53, _⟩ => ⟨S_, .f32⟩
  | .hbm, ⟨54, _⟩ => ⟨S32x2048x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S32x2048x2816, .f32⟩
  | .hbm, ⟨59, _⟩ => ⟨S32x2048x2816, .f32⟩
  | .hbm, ⟨60, _⟩ => ⟨S1x2816, .f32⟩
  | .hbm, ⟨61, _⟩ => ⟨S2816, .f32⟩
  | .hbm, ⟨62, _⟩ => ⟨S1x1x2816, .f32⟩
  | .hbm, ⟨63, _⟩ => ⟨S32x2048x2816, .f32⟩
  | .hbm, ⟨64, _⟩ => ⟨S32x2048x2816, .f32⟩
  | .hbm, ⟨65, _⟩ => ⟨S32x2048x2816, .f32⟩
  | .hbm, ⟨66, _⟩ => ⟨S1x2816, .f32⟩
  | .hbm, ⟨67, _⟩ => ⟨S2816, .f32⟩
  | .hbm, ⟨68, _⟩ => ⟨S1x1x2816, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S1x1x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x2816, .f32⟩
  | .hbm, ⟨77, _⟩ => ⟨S_, .f32⟩
  | .hbm, ⟨78, _⟩ => ⟨S32x2048x2816, .f32⟩
  | .hbm, ⟨79, _⟩ => ⟨S32x2048x2816, .f32⟩
  | .hbm, ⟨80, _⟩ => ⟨S_, .f32⟩
  | .hbm, ⟨81, _⟩ => ⟨S32x2048x2816, .f32⟩
  | .hbm, ⟨82, _⟩ => ⟨S32x2048x2816, .f32⟩
  | .hbm, ⟨83, _⟩ => ⟨S32x2048x2816, .f32⟩
  | .hbm, ⟨84, _⟩ => ⟨S32x2048x2816, .f32⟩
  | .hbm, ⟨85, _⟩ => ⟨S32x2048x1024, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S32x1x1024 : Shape := ⟨3, ![32, 1, 1024]⟩
abbrev S1024x4480 : Shape := ⟨2, ![1024, 4480]⟩
abbrev S1x1024 : Shape := ⟨2, ![1, 1024]⟩
abbrev S32x2048x2560 : Shape := ⟨3, ![32, 2048, 2560]⟩
abbrev S32x2048x1920 : Shape := ⟨3, ![32, 2048, 1920]⟩
abbrev S1x512x1024 : Shape := ⟨3, ![1, 512, 1024]⟩
abbrev S1x1x1024 : Shape := ⟨3, ![1, 1, 1024]⟩
abbrev S1x512x2560 : Shape := ⟨3, ![1, 512, 2560]⟩
abbrev S1x512x1920 : Shape := ⟨3, ![1, 512, 1920]⟩
abbrev S512x1024 : Shape := ⟨2, ![512, 1024]⟩
abbrev S512 : Shape := ⟨1, ![512]⟩
abbrev S512x1 : Shape := ⟨2, ![512, 1]⟩
abbrev S1024x2560 : Shape := ⟨2, ![1024, 2560]⟩
abbrev S512x2560 : Shape := ⟨2, ![512, 2560]⟩
abbrev S1024x1920 : Shape := ⟨2, ![1024, 1920]⟩
abbrev S512x1920 : Shape := ⟨2, ![512, 1920]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x4480, .f32⟩
  | .hbm, ⟨5, _⟩ => ⟨S1x1024, .f32⟩
  | .hbm, ⟨6, _⟩ => ⟨S1024x4480, .bf16⟩
  | .hbm, ⟨7, _⟩ => ⟨S32x2048x2560, .f32⟩
  | .hbm, ⟨8, _⟩ => ⟨S32x2048x1920, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4480, .bf16⟩
  | .local _ .vmem, ⟨8, _⟩ => ⟨S1x512x2560, .f32⟩
  | .local _ .vmem, ⟨9, _⟩ => ⟨S1x512x2560, .f32⟩
  | .local _ .vmem, ⟨10, _⟩ => ⟨S1x512x1920, .f32⟩
  | .local _ .vmem, ⟨11, _⟩ => ⟨S1x512x1920, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4480 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32x2048x1024 : Shape := ⟨3, ![32, 2048, 1024]⟩
abbrev S1024 : Shape := ⟨1, ![1024]⟩
abbrev S32x1x1024 : Shape := ⟨3, ![32, 1, 1024]⟩
abbrev S1024x4480 : Shape := ⟨2, ![1024, 4480]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4480 : Shape := ⟨3, ![32, 2048, 4480]⟩
abbrev S32x2048x2560 : Shape := ⟨3, ![32, 2048, 2560]⟩
abbrev S32x2048x1920 : Shape := ⟨3, ![32, 2048, 1920]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x4480, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x4480, .f32⟩
  | .hbm, ⟨29, _⟩ => ⟨S32x2048x2560, .f32⟩
  | .hbm, ⟨30, _⟩ => ⟨S32x2048x1920, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024 : Shape := ⟨1, ![1024]⟩
abbrev S32x1x1024 : Shape := ⟨3, ![32, 1, 1024]⟩
abbrev S1024x1536 : Shape := ⟨2, ![1024, 1536]⟩
abbrev S1x1024 : Shape := ⟨2, ![1, 1024]⟩
abbrev S32x2048x512 : Shape := ⟨3, ![32, 2048, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x1536, .f32⟩
  | .hbm, ⟨5, _⟩ => ⟨S1x1024, .f32⟩
  | .hbm, ⟨6, _⟩ => ⟨S1024x1536, .bf16⟩
  | .hbm, ⟨7, _⟩ => ⟨S32x2048x512, .bf16⟩
  | .hbm, ⟨8, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x2048x1024 : Shape := ⟨3, ![32, 2048, 1024]⟩
abbrev S1024 : Shape := ⟨1, ![1024]⟩
abbrev S32x1x1024 : Shape := ⟨3, ![32, 1, 1024]⟩
abbrev S1024x1536 : Shape := ⟨2, ![1024, 1536]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1536 : Shape := ⟨3, ![32, 2048, 1536]⟩
abbrev S32x2048x512 : Shape := ⟨3, ![32, 2048, 512]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x1536, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1536, .f32⟩
  | .hbm, ⟨29, _⟩ => ⟨S32x2048x512, .f32⟩
  | .hbm, ⟨30, _⟩ => ⟨S32x2048x512, .bf16⟩
  | .hbm, ⟨31, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S32x1024 : Shape := ⟨2, ![32, 1024]⟩
abbrev S2x2x1024x3072 : Shape := ⟨4, ![2, 2, 1024, 3072]⟩
abbrev S2x2x3072 : Shape := ⟨3, ![2, 2, 3072]⟩
abbrev S4x1024x3072 : Shape := ⟨3, ![4, 1024, 3072]⟩
abbrev S4x3072 : Shape := ⟨2, ![4, 3072]⟩
abbrev S4x1x3072 : Shape := ⟨3, ![4, 1, 3072]⟩
abbrev S4x32x3072 : Shape := ⟨3, ![4, 32, 3072]⟩
abbrev S1x1024x1024 : Shape := ⟨3, ![1, 1024, 1024]⟩
abbrev S1x1x1024 : Shape := ⟨3, ![1, 1, 1024]⟩
abbrev S1x32x1024 : Shape := ⟨3, ![1, 32, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x2x1024x3072, .f32⟩
  | .hbm, ⟨2, _⟩ => ⟨S2x2x3072, .f32⟩
  | .hbm, ⟨3, _⟩ => ⟨S4x1024x3072, .f32⟩
  | .hbm, ⟨4, _⟩ => ⟨S4x3072, .f32⟩
  | .hbm, ⟨5, _⟩ => ⟨S4x1x3072, .f32⟩
  | .hbm, ⟨6, _⟩ => ⟨S4x32x3072, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32x1024 : Shape := ⟨2, ![32, 1024]⟩
abbrev S2x2x1024x3072 : Shape := ⟨4, ![2, 2, 1024, 3072]⟩
abbrev S2x2x3072 : Shape := ⟨3, ![2, 2, 3072]⟩
abbrev S_ : Shape := ⟨0, ![]⟩
abbrev S1x1x1024x3072 : Shape := ⟨4, ![1, 1, 1024, 3072]⟩
abbrev S1024x3072 : Shape := ⟨2, ![1024, 3072]⟩
abbrev S32x3072 : Shape := ⟨2, ![32, 3072]⟩
abbrev S1x1x3072 : Shape := ⟨3, ![1, 1, 3072]⟩
abbrev S3072 : Shape := ⟨1, ![3072]⟩
abbrev S1x3072 : Shape := ⟨2, ![1, 3072]⟩
abbrev S1x32x3072 : Shape := ⟨3, ![1, 32, 3072]⟩
abbrev S4x32x3072 : Shape := ⟨3, ![4, 32, 3072]⟩

abbrev nBuf : Space → Nat
  | .hbm => 49
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x2x1024x3072, .f32⟩
  | .hbm, ⟨2, _⟩ => ⟨S2x2x3072, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1x1x1024x3072, .f32⟩
  | .hbm, ⟨13, _⟩ => ⟨S1024x3072, .f32⟩
  | .hbm, ⟨14, _⟩ => ⟨S32x3072, .f32⟩
  | .hbm, ⟨15, _⟩ => ⟨S1x1x3072, .f32⟩
  | .hbm, ⟨16, _⟩ => ⟨S3072, .f32⟩
  | .hbm, ⟨17, _⟩ => ⟨S1x3072, .f32⟩
  | .hbm, ⟨18, _⟩ => ⟨S32x3072, .f32⟩
  | .hbm, ⟨19, _⟩ => ⟨S32x3072, .f32⟩
  | .hbm, ⟨20, _⟩ => ⟨S1x1x1024x3072, .f32⟩
  | .hbm, ⟨21, _⟩ => ⟨S1024x3072, .f32⟩
  | .hbm, ⟨22, _⟩ => ⟨S32x3072, .f32⟩
  | .hbm, ⟨23, _⟩ => ⟨S1x1x3072, .f32⟩
  | .hbm, ⟨24, _⟩ => ⟨S3072, .f32⟩
  | .hbm, ⟨25, _⟩ => ⟨S1x3072, .f32⟩
  | .hbm, ⟨26, _⟩ => ⟨S32x3072, .f32⟩
  | .hbm, ⟨27, _⟩ => ⟨S32x3072, .f32⟩
  | .hbm, ⟨28, _⟩ => ⟨S1x1x1024x3072, .f32⟩
  | .hbm, ⟨29, _⟩ => ⟨S1024x3072, .f32⟩
  | .hbm, ⟨30, _⟩ => ⟨S32x3072, .f32⟩
  | .hbm, ⟨31, _⟩ => ⟨S1x1x3072, .f32⟩
  | .hbm, ⟨32, _⟩ => ⟨S3072, .f32⟩
  | .hbm, ⟨33, _⟩ => ⟨S1x3072, .f32⟩
  | .hbm, ⟨34, _⟩ => ⟨S32x3072, .f32⟩
  | .hbm, ⟨35, _⟩ => ⟨S32x3072, .f32⟩
  | .hbm, ⟨36, _⟩ => ⟨S1x1x1024x3072, .f32⟩
  | .hbm, ⟨37, _⟩ => ⟨S1024x3072, .f32⟩
  | .hbm, ⟨38, _⟩ => ⟨S32x3072, .f32⟩
  | .hbm, ⟨39, _⟩ => ⟨S1x1x3072, .f32⟩
  | .hbm, ⟨40, _⟩ => ⟨S3072, .f32⟩
  | .hbm, ⟨41, _⟩ => ⟨S1x3072, .f32⟩
  | .hbm, ⟨42, _⟩ => ⟨S32x3072, .f32⟩
  | .hbm, ⟨43, _⟩ => ⟨S32x3072, .f32⟩
  | .hbm, ⟨44, _⟩ => ⟨S1x32x3072, .f32⟩
  | .hbm, ⟨45, _⟩ => ⟨S1x32x3072, .f32⟩
  | .hbm, ⟨46, _⟩ => ⟨S1x32x3072, .f32⟩
  | .hbm, ⟨47, _⟩ => ⟨S1x32x3072, .f32⟩
  | .hbm, ⟨48, _⟩ => ⟨S4x32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel6.lean ====
abbrev S32x2048x1024 : Shape := ⟨3, ![32, 2048, 1024]⟩
abbrev S31x512 : Shape := ⟨2, ![31, 512]⟩
abbrev S512 : Shape := ⟨1, ![512]⟩
abbrev S1x512 : Shape := ⟨2, ![1, 512]⟩
abbrev S32x2048x512 : Shape := ⟨3, ![32, 2048, 512]⟩
abbrev S1x2048x1024 : Shape := ⟨3, ![1, 2048, 1024]⟩
abbrev S1x2048x512 : Shape := ⟨3, ![1, 2048, 512]⟩
abbrev S2080x512 : Shape := ⟨2, ![2080, 512]⟩
abbrev S16x512 : Shape := ⟨2, ![16, 512]⟩
abbrev S1x64x512 : Shape := ⟨3, ![1, 64, 512]⟩
abbrev S64x512 : Shape := ⟨2, ![64, 512]⟩
abbrev S96x128 : Shape := ⟨2, ![96, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S32x2048x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S2080x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v9 : BitVec 32 := Scalar.muli arg8 c64_i32
  v9
def k0_off1 (k0_t1 : Fin k0_t1_loop.trips) : Fin 3 → Nat :=
  let c0_7 : Index := 0#32
  let c0_i32 : BitVec 32 := 0#32
  let c1_i32 : BitVec 32 := 1#32
  let arg8 : BitVec 32 := Scf.iv c0_i32 c1_i32 k0_t1
  let c64_i32 : BitVec 32 := 64#32
  let v9 : BitVec 32 := Scalar.muli arg8 c64_i32
  let v10 : BitVec 32 := v9
  let v11 : Index := Scalar.indexCast v10
  let c0_8 : Index := 0#32
  ![0, v11.toNat, 0]
def k0_off2 (k0_t1 : Fin k0_t1_loop.trips) : Fin 3 → Nat :=
  let c0_9 : Index := 0#32
  let c0_i32 : BitVec 32 := 0#32
  let c1_i32 : BitVec 32 := 1#32
  let arg8 : BitVec 32 := Scf.iv c0_i32 c1_i32 k0_t1
  let c64_i32 : BitVec 32 := 64#32
  let v9 : BitVec 32 := Scalar.muli arg8 c64_i32
  let v10 : BitVec 32 := v9
  let v14 : Index := Scalar.indexCast v10
  let c512 : Index := 512#32
  ![0, v14.toNat, 512]
def k0_off3 (k0_t1 : Fin k0_t1_loop.trips) : Fin 2 → Nat :=
  let c16_i32 : BitVec 32 := 16#32
  let c0_i32 : BitVec 32 := 0#32
  let c1_i32 : BitVec 32 := 1#32
  let arg8 : BitVec 32 := Scf.iv c0_i32 c1_i32 k0_t1
  let c64_i32 : BitVec 32 := 64#32
  let v9 : BitVec 32 := Scalar.muli arg8 c64_i32
  let v10 : BitVec 32 := v9
  let v19 : BitVec 32 := Scalar.addi c16_i32 v10
  let v20 : Index := Scalar.indexCast v19
  let c0_10 : Index := 0#32
  ![v20.toNat, 0]
@[reducible] def k0_t2_loop : Scf.Loop 32 :=
  let c0_i32_3 : BitVec 32 := 0#32
  let c32_i32_4 : BitVec 32 := 32#32
  let v8 : BitVec 32 := Scalar.addi c0_i32_3 c32_i32_4
  let c1_i32_5 : BitVec 32 := 1#32
  ⟨c0_i32_3, v8, c1_i32_5⟩
def k0_mult2 (k0_t2 : Fin k0_t2_loop.trips) : BitVec 32 :=
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  v9
def k0_off4 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  let v10 : BitVec 32 := v9
  let v11 : Index := Scalar.indexCast v10
  let c0_7 : Index := 0#32
  ![v11.toNat, 0]
def k0_off5 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  let v10 : BitVec 32 := v9
  let v180 : Index := Scalar.indexCast v10
  let c128 : Index := 128#32
  ![v180.toNat, 128]
def k0_off6 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  let v10 : BitVec 32 := v9
  let v349 : Index := Scalar.indexCast v10
  let c256 : Index := 256#32
  ![v349.toNat, 256]
def k0_off7 (k0_t2 : Fin k0_t2_loop.trips) : Fin 2 → Nat :=
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  let v10 : BitVec 32 := v9
  let v518 : Index := Scalar.indexCast v10
  let c384 : Index := 384#32
  ![v518.toNat, 384]
def k0_off8 (k0_t2 : Fin k0_t2_loop.trips) : Fin 3 → Nat :=
  let c0_268 : Index := 0#32
  let c0_i32_3 : BitVec 32 := 0#32
  let c1_i32_5 : BitVec 32 := 1#32
  let arg8 : BitVec 32 := Scf.iv c0_i32_3 c1_i32_5 k0_t2
  let c64_i32 : BitVec 32 := 64#32
  let v9 : BitVec 32 := Scalar.muli arg8 c64_i32
  let v10 : BitVec 32 := v9
  let v715 : Index := Scalar.indexCast v10
  let c0_269 : Index := 0#32
  ![0, v715.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32x2048x1024 : Shape := ⟨3, ![32, 2048, 1024]⟩
abbrev S31x512 : Shape := ⟨2, ![31, 512]⟩
abbrev S512 : Shape := ⟨1, ![512]⟩
abbrev S32x2048x512 : Shape := ⟨3, ![32, 2048, 512]⟩
abbrev S_ : Shape := ⟨0, ![]⟩
abbrev S32x2078x512 : Shape := ⟨3, ![32, 2078, 512]⟩
abbrev S1x512 : Shape := ⟨2, ![1, 512]⟩
abbrev S1x1x512 : Shape := ⟨3, ![1, 1, 512]⟩
abbrev S32x2048 : Shape := ⟨2, ![32, 2048]⟩
abbrev S32x2048x1 : Shape := ⟨3, ![32, 2048, 1]⟩

abbrev nBuf : Space → Nat
  | .hbm => 278
  | .vmem => 0
  | .smem => 0
  | _ => 0

abbrev hbmTy0_0 (i : Nat) : BufTy := match i % 128 with
  | 0 => ⟨S32x2048x1024, .f32⟩
  | 1 => ⟨S31x512, .f32⟩
  | 2 => ⟨S512, .f32⟩
  | 3 => ⟨S512, .f32⟩
  | 4 => ⟨S512, .f32⟩
  | 5 => ⟨S32x2048x512, .f32⟩
  | 6 => ⟨S32x2048x512, .f32⟩
  | 7 => ⟨S32x2048x512, .f32⟩
  | 8 => ⟨S32x2048x512, .f32⟩
  | 9 => ⟨S_, .f32⟩
  | 10 => ⟨S32x2048x512, .f32⟩
  | 11 => ⟨S32x2048x512, .f32⟩
  | 12 => ⟨S_, .f32⟩
  | 13 => ⟨S32x2048x512, .f32⟩
  | 14 => ⟨S32x2048x512, .f32⟩
  | 15 => ⟨S32x2048x512, .f32⟩
  | 16 => ⟨S_, .i32⟩
  | 17 => ⟨S_, .f32⟩
  | 18 => ⟨S32x2078x512, .f32⟩
  | 19 => ⟨S1x512, .f32⟩
  | 20 => ⟨S512, .f32⟩
  | 21 => ⟨S32x2048x512, .f32⟩
  | 22 => ⟨S1x1x512, .f32⟩
  | 23 => ⟨S32x2048x512, .f32⟩
  | 24 => ⟨S32x2048x512, .f32⟩
  | 25 => ⟨S_, .f32⟩
  | 26 => ⟨S32x2048x512, .f32⟩
  | 27 => ⟨S32x2048x512, .f32⟩
  | 28 => ⟨S1x512, .f32⟩
  | 29 => ⟨S512, .f32⟩
  | 30 => ⟨S32x2048x512, .f32⟩
  | 31 => ⟨S1x1x512, .f32⟩
  | 32 => ⟨S32x2048x512, .f32⟩
  | 33 => ⟨S32x2048x512, .f32⟩
  | 34 => ⟨S32x2048x512, .f32⟩
  | 35 => ⟨S1x512, .f32⟩
  | 36 => ⟨S512, .f32⟩
  | 37 => ⟨S32x2048x512, .f32⟩
  | 38 => ⟨S1x1x512, .f32⟩
  | 39 => ⟨S32x2048x512, .f32⟩
  | 40 => ⟨S32x2048x512, .f32⟩
  | 41 => ⟨S32x2048x512, .f32⟩
  | 42 => ⟨S1x512, .f32⟩
  | 43 => ⟨S512, .f32⟩
  | 44 => ⟨S32x2048x512, .f32⟩
  | 45 => ⟨S1x1x512, .f32⟩
  | 46 => ⟨S32x2048x512, .f32⟩
  | 47 => ⟨S32x2048x512, .f32⟩
  | 48 => ⟨S32x2048x512, .f32⟩
  | 49 => ⟨S1x512, .f32⟩
  | 50 => ⟨S512, .f32⟩
  | 51 => ⟨S32x2048x512, .f32⟩
  | 52 => ⟨S1x1x512, .f32⟩
  | 53 => ⟨S32x2048x512, .f32⟩
  | 54 => ⟨S32x2048x512, .f32⟩
  | 55 => ⟨S32x2048x512, .f32⟩
  | 56 => ⟨S1x512, .f32⟩
  | 57 => ⟨S512, .f32⟩
  | 58 => ⟨S32x2048x512, .f32⟩
  | 59 => ⟨S1x1x512, .f32⟩
  | 60 => ⟨S32x2048x512, .f32⟩
  | 61 => ⟨S32x2048x512, .f32⟩
  | 62 => ⟨S32x2048x512, .f32⟩
  | 63 => ⟨S1x512, .f32⟩
  | 64 => ⟨S512, .f32⟩
  | 65 => ⟨S32x2048x512, .f32⟩
  | 66 => ⟨S1x1x512, .f32⟩
  | 67 => ⟨S32x2048x512, .f32⟩
  | 68 => ⟨S32x2048x512, .f32⟩
  | 69 => ⟨S32x2048x512, .f32⟩
  | 70 => ⟨S1x512, .f32⟩
  | 71 => ⟨S512, .f32⟩
  | 72 => ⟨S32x2048x512, .f32⟩
  | 73 => ⟨S1x1x512, .f32⟩
  | 74 => ⟨S32x2048x512, .f32⟩
  | 75 => ⟨S32x2048x512, .f32⟩
  | 76 => ⟨S32x2048x512, .f32⟩
  | 77 => ⟨S1x512, .f32⟩
  | 78 => ⟨S512, .f32⟩
  | 79 => ⟨S32x2048x512, .f32⟩
  | 80 => ⟨S1x1x512, .f32⟩
  | 81 => ⟨S32x2048x512, .f32⟩
  | 82 => ⟨S32x2048x512, .f32⟩
  | 83 => ⟨S32x2048x512, .f32⟩
  | 84 => ⟨S1x512, .f32⟩
  | 85 => ⟨S512, .f32⟩
  | 86 => ⟨S32x2048x512, .f32⟩
  | 87 => ⟨S1x1x512, .f32⟩
  | 88 => ⟨S32x2048x512, .f32⟩
  | 89 => ⟨S32x2048x512, .f32⟩
  | 90 => ⟨S32x2048x512, .f32⟩
  | 91 => ⟨S1x512, .f32⟩
  | 92 => ⟨S512, .f32⟩
  | 93 => ⟨S32x2048x512, .f32⟩
  | 94 => ⟨S1x1x512, .f32⟩
  | 95 => ⟨S32x2048x512, .f32⟩
  | 96 => ⟨S32x2048x512, .f32⟩
  | 97 => ⟨S32x2048x512, .f32⟩
  | 98 => ⟨S1x512, .f32⟩
  | 99 => ⟨S512, .f32⟩
  | 100 => ⟨S32x2048x512, .f32⟩
  | 101 => ⟨S1x1x512, .f32⟩
  | 102 => ⟨S32x2048x512, .f32⟩
  | 103 => ⟨S32x2048x512, .f32⟩
  | 104 => ⟨S32x2048x512, .f32⟩
  | 105 => ⟨S1x512, .f32⟩
  | 106 => ⟨S512, .f32⟩
  | 107 => ⟨S32x2048x512, .f32⟩
  | 108 => ⟨S1x1x512, .f32⟩
  | 109 => ⟨S32x2048x512, .f32⟩
  | 110 => ⟨S32x2048x512, .f32⟩
  | 111 => ⟨S32x2048x512, .f32⟩
  | 112 => ⟨S1x512, .f32⟩
  | 113 => ⟨S512, .f32⟩
  | 114 => ⟨S32x2048x512, .f32⟩
  | 115 => ⟨S1x1x512, .f32⟩
  | 116 => ⟨S32x2048x512, .f32⟩
  | 117 => ⟨S32x2048x512, .f32⟩
  | 118 => ⟨S32x2048x512, .f32⟩
  | 119 => ⟨S1x512, .f32⟩
  | 120 => ⟨S512, .f32⟩
  | 121 => ⟨S32x2048x512, .f32⟩
  | 122 => ⟨S1x1x512, .f32⟩
  | 123 => ⟨S32x2048x512, .f32⟩
  | 124 => ⟨S32x2048x512, .f32⟩
  | 125 => ⟨S32x2048x512, .f32⟩
  | 126 => ⟨S1x512, .f32⟩
  | 127 => ⟨S512, .f32⟩
  | _ => ⟨S32x2048x1024, .f32⟩

abbrev hbmTy0_1 (i : Nat) : BufTy := match i % 128 with
  | 0 => ⟨S32x2048x512, .f32⟩
  | 1 => ⟨S1x1x512, .f32⟩
  | 2 => ⟨S32x2048x512, .f32⟩
  | 3 => ⟨S32x2048x512, .f32⟩
  | 4 => ⟨S32x2048x512, .f32⟩
  | 5 => ⟨S1x512, .f32⟩
  | 6 => ⟨S512, .f32⟩
  | 7 => ⟨S32x2048x512, .f32⟩
  | 8 => ⟨S1x1x512, .f32⟩
  | 9 => ⟨S32x2048x512, .f32⟩
  | 10 => ⟨S32x2048x512, .f32⟩
  | 11 => ⟨S32x2048x512, .f32⟩
  | 12 => ⟨S1x512, .f32⟩
  | 13 => ⟨S512, .f32⟩
  | 14 => ⟨S32x2048x512, .f32⟩
  | 15 => ⟨S1x1x512, .f32⟩
  | 16 => ⟨S32x2048x512, .f32⟩
  | 17 => ⟨S32x2048x512, .f32⟩
  | 18 => ⟨S32x2048x512, .f32⟩
  | 19 => ⟨S1x512, .f32⟩
  | 20 => ⟨S512, .f32⟩
  | 21 => ⟨S32x2048x512, .f32⟩
  | 22 => ⟨S1x1x512, .f32⟩
  | 23 => ⟨S32x2048x512, .f32⟩
  | 24 => ⟨S32x2048x512, .f32⟩
  | 25 => ⟨S32x2048x512, .f32⟩
  | 26 => ⟨S1x512, .f32⟩
  | 27 => ⟨S512, .f32⟩
  | 28 => ⟨S32x2048x512, .f32⟩
  | 29 => ⟨S1x1x512, .f32⟩
  | 30 => ⟨S32x2048x512, .f32⟩
  | 31 => ⟨S32x2048x512, .f32⟩
  | 32 => ⟨S32x2048x512, .f32⟩
  | 33 => ⟨S1x512, .f32⟩
  | 34 => ⟨S512, .f32⟩
  | 35 => ⟨S32x2048x512, .f32⟩
  | 36 => ⟨S1x1x512, .f32⟩
  | 37 => ⟨S32x2048x512, .f32⟩
  | 38 => ⟨S32x2048x512, .f32⟩
  | 39 => ⟨S32x2048x512, .f32⟩
  | 40 => ⟨S1x512, .f32⟩
  | 41 => ⟨S512, .f32⟩
  | 42 => ⟨S32x2048x512, .f32⟩
  | 43 => ⟨S1x1x512, .f32⟩
  | 44 => ⟨S32x2048x512, .f32⟩
  | 45 => ⟨S32x2048x512, .f32⟩
  | 46 => ⟨S32x2048x512, .f32⟩
  | 47 => ⟨S1x512, .f32⟩
  | 48 => ⟨S512, .f32⟩
  | 49 => ⟨S32x2048x512, .f32⟩
  | 50 => ⟨S1x1x512, .f32⟩
  | 51 => ⟨S32x2048x512, .f32⟩
  | 52 => ⟨S32x2048x512, .f32⟩
  | 53 => ⟨S32x2048x512, .f32⟩
  | 54 => ⟨S1x512, .f32⟩
  | 55 => ⟨S512, .f32⟩
  | 56 => ⟨S32x2048x512, .f32⟩
  | 57 => ⟨S1x1x512, .f32⟩
  | 58 => ⟨S32x2048x512, .f32⟩
  | 59 => ⟨S32x2048x512, .f32⟩
  | 60 => ⟨S32x2048x512, .f32⟩
  | 61 => ⟨S1x512, .f32⟩
  | 62 => ⟨S512, .f32⟩
  | 63 => ⟨S32x2048x512, .f32⟩
  | 64 => ⟨S1x1x512, .f32⟩
  | 65 => ⟨S32x2048x512, .f32⟩
  | 66 => ⟨S32x2048x512, .f32⟩
  | 67 => ⟨S32x2048x512, .f32⟩
  | 68 => ⟨S1x512, .f32⟩
  | 69 => ⟨S512, .f32⟩
  | 70 => ⟨S32x2048x512, .f32⟩
  | 71 => ⟨S1x1x512, .f32⟩
  | 72 => ⟨S32x2048x512, .f32⟩
  | 73 => ⟨S32x2048x512, .f32⟩
  | 74 => ⟨S32x2048x512, .f32⟩
  | 75 => ⟨S1x512, .f32⟩
  | 76 => ⟨S512, .f32⟩
  | 77 => ⟨S32x2048x512, .f32⟩
  | 78 => ⟨S1x1x512, .f32⟩
  | 79 => ⟨S32x2048x512, .f32⟩
  | 80 => ⟨S32x2048x512, .f32⟩
  | 81 => ⟨S32x2048x512, .f32⟩
  | 82 => ⟨S1x512, .f32⟩
  | 83 => ⟨S512, .f32⟩
  | 84 => ⟨S32x2048x512, .f32⟩
  | 85 => ⟨S1x1x512, .f32⟩
  | 86 => ⟨S32x2048x512, .f32⟩
  | 87 => ⟨S32x2048x512, .f32⟩
  | 88 => ⟨S32x2048x512, .f32⟩
  | 89 => ⟨S1x512, .f32⟩
  | 90 => ⟨S512, .f32⟩
  | 91 => ⟨S32x2048x512, .f32⟩
  | 92 => ⟨S1x1x512, .f32⟩
  | 93 => ⟨S32x2048x512, .f32⟩
  | 94 => ⟨S32x2048x512, .f32⟩
  | 95 => ⟨S32x2048x512, .f32⟩
  | 96 => ⟨S1x512, .f32⟩
  | 97 => ⟨S512, .f32⟩
  | 98 => ⟨S32x2048x512, .f32⟩
  | 99 => ⟨S1x1x512, .f32⟩
  | 100 => ⟨S32x2048x512, .f32⟩
  | 101 => ⟨S32x2048x512, .f32⟩
  | 102 => ⟨S32x2048x512, .f32⟩
  | 103 => ⟨S1x512, .f32⟩
  | 104 => ⟨S512, .f32⟩
  | 105 => ⟨S32x2048x512, .f32⟩
  | 106 => ⟨S1x1x512, .f32⟩
  | 107 => ⟨S32x2048x512, .f32⟩
  | 108 => ⟨S32x2048x512, .f32⟩
  | 109 => ⟨S32x2048x512, .f32⟩
  | 110 => ⟨S1x1x512, .f32⟩
  | 111 => ⟨S32x2048x512, .f32⟩
  | 112 => ⟨S32x2048x512, .f32⟩
  | 113 => ⟨S_, .f32⟩
  | 114 => ⟨S32x2048, .f32⟩
  | 115 => ⟨S32x2048x1, .f32⟩
  | 116 => ⟨S_, .f32⟩
  | 117 => ⟨S32x2048x1, .f32⟩
  | 118 => ⟨S32x2048x1, .f32⟩
  | 119 => ⟨S32x2048x512, .f32⟩
  | 120 => ⟨S32x2048x512, .f32⟩
  | 121 => ⟨S32x2048x512, .f32⟩
  | 122 => ⟨S_, .f32⟩
  | 123 => ⟨S32x2048, .f32⟩
  | 124 => ⟨S32x2048x1, .f32⟩
  | 125 => ⟨S_, .f32⟩
  | 126 => ⟨S32x2048x1, .f32⟩
  | 127 => ⟨S32x2048x1, .f32⟩
  | _ => ⟨S32x2048x1024, .f32⟩

abbrev hbmTy0_2 (i : Nat) : BufTy := match i % 128 with
  | 0 => ⟨S_, .f32⟩
  | 1 => ⟨S32x2048x1, .f32⟩
  | 2 => ⟨S32x2048x1, .f32⟩
  | 3 => ⟨S32x2048x1, .f32⟩
  | 4 => ⟨S32x2048x512, .f32⟩
  | 5 => ⟨S32x2048x512, .f32⟩
  | 6 => ⟨S1x1x512, .f32⟩
  | 7 => ⟨S32x2048x512, .f32⟩
  | 8 => ⟨S32x2048x512, .f32⟩
  | 9 => ⟨S1x1x512, .f32⟩
  | 10 => ⟨S32x2048x512, .f32⟩
  | 11 => ⟨S32x2048x512, .f32⟩
  | 12 => ⟨S32x2048x512, .f32⟩
  | 13 => ⟨S32x2048x512, .f32⟩
  | 14 => ⟨S_, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S32x2048x512, .f32⟩
  | 21 => ⟨S32x2048x512, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_cst_6 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v253 : Ref sig .tc := ⟨.hbm, 276, rfl⟩
abbrev main_v254 : Ref sig .tc := ⟨.hbm, 277, rfl⟩

abbrev nD : Nat := 1
abbrev τ : Topo := Topo.v7x

variable {F : FTy → Type} [FloatOps F]
-- ==== Kernel7.lean ====
abbrev S32x2048x512 : Shape := ⟨3, ![32, 2048, 512]⟩
abbrev S2048x2048 : Shape := ⟨2, ![2048, 2048]⟩
abbrev S128x128 : Shape := ⟨2, ![128, 128]⟩
abbrev S2048x4096 : Shape := ⟨2, ![2048, 4096]⟩
abbrev S128x256 : Shape := ⟨2, ![128, 256]⟩
abbrev S1x2048x512 : Shape := ⟨3, ![1, 2048, 512]⟩
abbrev S4096x512 : Shape := ⟨2, ![4096, 512]⟩
abbrev S1x2048x128 : Shape := ⟨3, ![1, 2048, 128]⟩
abbrev S2048x128 : Shape := ⟨2, ![2048, 128]⟩
abbrev S2048x256 : Shape := ⟨2, ![2048, 256]⟩
abbrev S512x4096 : Shape := ⟨2, ![512, 4096]⟩
abbrev S512x512 : Shape := ⟨2, ![512, 512]⟩
abbrev S1x512x512 : Shape := ⟨3, ![1, 512, 512]⟩

abbrev nBuf : Space → Nat
  | .hbm => 11
  | .vmem => 7
  | .smem => 0
  | _ => 0

abbrev bufTy : (tb : Table) → Fin (tcTables nBuf tb) → BufTy
  | .hbm, ⟨0, _⟩ => ⟨S32x2048x512, .bf16⟩
  | .hbm, ⟨1, _⟩ => ⟨S2048x2048, .f32⟩
  | .hbm, ⟨2, _⟩ => ⟨S2048x2048, .f32⟩
  | .hbm, ⟨3, _⟩ => ⟨S128x128, .f32⟩
  | .hbm, ⟨4, _⟩ => ⟨S128x128, .f32⟩
  | .hbm, ⟨5, _⟩ => ⟨S2048x2048, .f32⟩
  | .hbm, ⟨6, _⟩ => ⟨S2048x4096, .f32⟩
  | .hbm, ⟨7, _⟩ => ⟨S2048x4096, .bf16⟩
  | .hbm, ⟨8, _⟩ => ⟨S128x256, .f32⟩
  | .hbm, ⟨9, _⟩ => ⟨S128x256, .bf16⟩
  | .hbm, ⟨10, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S128x256, .bf16⟩
  | .local _ .vmem, ⟨3, _⟩ => ⟨S2048x4096, .bf16⟩
  | .local _ .vmem, ⟨4, _⟩ => ⟨S1x2048x512, .bf16⟩
  | .local _ .vmem, ⟨5, _⟩ => ⟨S1x2048x512, .bf16⟩
  | .local _ .vmem, ⟨6, _⟩ => ⟨S4096x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v60 : BitVec 32 := Scalar.addi c0_i32 c4_i32
  let c1_i32 : BitVec 32 := 1#32
  ⟨c0_i32, v60, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v61 : BitVec 32 := Scalar.muli arg6 c512_i32
  v61
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v61 : BitVec 32 := Scalar.muli arg6 c512_i32
  let v62 : BitVec 32 := v61
  let v63 : Index := Scalar.indexCast v62
  let c0_35 : Index := 0#32
  ![v63.toNat, 0]
def k0_off2 (k0_t1 : Fin k0_t1_loop.trips) : Fin 3 → Nat :=
  let c0_40 : Index := 0#32
  let c0_i32 : BitVec 32 := 0#32
  let c1_i32 : BitVec 32 := 1#32
  let arg6 : BitVec 32 := Scf.iv c0_i32 c1_i32 k0_t1
  let c512_i32 : BitVec 32 := 512#32
  let v61 : BitVec 32 := Scalar.muli arg6 c512_i32
  let v62 : BitVec 32 := v61
  let v71 : Index := Scalar.indexCast v62
  let c0_41 : Index := 0#32
  ![0, v71.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S32x2048x512 : Shape := ⟨3, ![32, 2048, 512]⟩
abbrev S2048x2048 : Shape := ⟨2, ![2048, 2048]⟩
abbrev S128x128 : Shape := ⟨2, ![128, 128]⟩
abbrev S32x2048x4x128 : Shape := ⟨4, ![32, 2048, 4, 128]⟩
abbrev S32x512x2048 : Shape := ⟨3, ![32, 512, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S2048x2048, .f32⟩
  | .hbm, ⟨2, _⟩ => ⟨S2048x2048, .f32⟩
  | .hbm, ⟨3, _⟩ => ⟨S128x128, .f32⟩
  | .hbm, ⟨4, _⟩ => ⟨S128x128, .f32⟩
  | .hbm, ⟨5, _⟩ => ⟨S32x2048x512, .f32⟩
  | .hbm, ⟨6, _⟩ => ⟨S32x2048x4x128, .f32⟩
  | .hbm, ⟨7, _⟩ => ⟨S32x2048x4x128, .f32⟩
  | .hbm, ⟨8, _⟩ => ⟨S32x2048x512, .f32⟩
  | .hbm, ⟨9, _⟩ => ⟨S32x512x2048, .f32⟩
  | .hbm, ⟨10, _⟩ => ⟨S32x2048x512, .f32⟩
  | .hbm, ⟨11, _⟩ => ⟨S2048x2048, .f32⟩
  | .hbm, ⟨12, _⟩ => ⟨S32x2048x4x128, .f32⟩
  | .hbm, ⟨13, _⟩ => ⟨S32x2048x512, .f32⟩
  | .hbm, ⟨14, _⟩ => ⟨S32x512x2048, .f32⟩
  | .hbm, ⟨15, _⟩ => ⟨S32x2048x512, .f32⟩
  | .hbm, ⟨16, _⟩ => ⟨S32x2048x512, .f32⟩
  | .hbm, ⟨17, _⟩ => ⟨S_, .f32⟩
  | .hbm, ⟨18, _⟩ => ⟨S32x2048x512, .f32⟩
  | .hbm, ⟨19, _⟩ => ⟨S32x2048x512, .f32⟩
  | .hbm, ⟨20, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Mix.Spec.lean ====
/- What one layer's second half is, as plain sums over the extended reals: the mixers' outputs are projected and added to
   the stream, the result is normalised and modulated, sent through the gated feed-forward with a centred convolution of
   width three over positions, added back under its gate, and normalised once more. Neither program is mentioned. -/
module
public import Idealize.ShloMosaic.Lib.Pointwise
@[expose] public section
noncomputable section
namespace Cert.Mix
open Idealize.ShloMosaic

/-- The fourteen arguments, as arrays of extended reals. -/
structure Args where
  x : (⟨3, ![32, 2048, 1024]⟩ : Shape).Idx → EReal
  ya : (⟨3, ![32, 2048, 512]⟩ : Shape).Idx → EReal
  yb : (⟨3, ![32, 2048, 512]⟩ : Shape).Idx → EReal
  mg : (⟨3, ![32, 1, 1024]⟩ : Shape).Idx → EReal
  wo : (⟨2, ![1024, 1024]⟩ : Shape).Idx → EReal
  g : (⟨1, ![1024]⟩ : Shape).Idx → EReal
  sc : (⟨3, ![32, 1, 1024]⟩ : Shape).Idx → EReal
  sh : (⟨3, ![32, 1, 1024]⟩ : Shape).Idx → EReal
  gt : (⟨3, ![32, 1, 1024]⟩ : Shape).Idx → EReal
  wu : (⟨2, ![1024, 5632]⟩ : Shape).Idx → EReal
  cw : (⟨2, ![3, 2816]⟩ : Shape).Idx → EReal
  cb : (⟨1, ![2816]⟩ : Shape).Idx → EReal
  wd : (⟨2, ![2816, 1024]⟩ : Shape).Idx → EReal
  fg : (⟨1, ![1024]⟩ : Shape).Idx → EReal

/-- The reciprocal root of a row's mean square (with the constants 1024 and 1e-6 as the programs print them). -/
def inv (v : Fin 1024 → EReal) : EReal :=
  Ideal.rsqrt (Ideal.div (∑ x, v x * v x) (Ideal.ofBits FTy.f32 1149239296#32) + Ideal.ofBits FTy.f32 897988541#32)

/-- The stream after the mixers' projection has been added under its gate. -/
def Args.mid (A : Args) (b : Fin 32) (s : Fin 2048) (d : Fin 1024) : EReal :=
  A.x (ix3 b s d) + A.mg (ix3 b 0 d) *
    ((∑ k : Fin 512, A.ya (ix3 b s k) * A.wo (ix2 ⟨k.val, by omega⟩ d))
      + ∑ k : Fin 512, A.yb (ix3 b s k) * A.wo (ix2 ⟨512 + k.val, by omega⟩ d))

/-- A row normalised, scaled and modulated with batch `b`'s scale and shift. -/
def Args.norm (A : Args) (b : Fin 32) (v : Fin 1024 → EReal) (d : Fin 1024) : EReal :=
  v d * inv v * A.g (ix1 d) * (1 + A.sc (ix3 b 0 d)) + A.sh (ix3 b 0 d)

/-- The feed-forward's input row at position `s`. -/
def Args.hid (A : Args) (b : Fin 32) (s : Fin 2048) (d : Fin 1024) : EReal := A.norm b (A.mid b s) d

/-- One entry of the up projection. -/
def Args.up (A : Args) (b : Fin 32) (s : Fin 2048) (f : Fin 5632) : EReal := ∑ x, A.hid b s x * A.wu (ix2 x f)

/-- The convolution's contribution from the position before (none at the first position). -/
def Args.before (A : Args) (b : Fin 32) (s : Fin 2048) (f : Fin 2816) : EReal :=
  if h : 1 ≤ s.val then A.cw (ix2 0 f) * A.up b ⟨s.val - 1, by omega⟩ ⟨f.val, by omega⟩ else 0

/-- The convolution's contribution from the position after (none at the last position). -/
def Args.after (A : Args) (b : Fin 32) (s : Fin 2048) (f : Fin 2816) : EReal :=
  if h : s.val + 1 < 2048 then A.cw (ix2 2 f) * A.up b ⟨s.val + 1, h⟩ ⟨f.val, by omega⟩ else 0

/-- The convolved half of the up projection. -/
def Args.conv (A : Args) (b : Fin 32) (s : Fin 2048) (f : Fin 2816) : EReal :=
  A.before b s f + A.cw (ix2 1 f) * A.up b s ⟨f.val, by omega⟩ + A.after b s f + A.cb (ix1 f)

/-- The gated activation. -/
def Args.act (A : Args) (b : Fin 32) (s : Fin 2048) (f : Fin 2816) : EReal :=
  A.conv b s f * Ideal.logistic (A.conv b s f) * A.up b s ⟨2816 + f.val, by omega⟩

/-- The stream after the feed-forward. -/
def Args.res (A : Args) (b : Fin 32) (s : Fin 2048) (d : Fin 1024) : EReal :=
  A.mid b s d + A.gt (ix3 b 0 d) * ∑ f, A.act b s f * A.wd (ix2 f d)

/-- The result: the stream normalised with the last gain. -/
def Args.out (A : Args) (b : Fin 32) (s : Fin 2048) (d : Fin 1024) : EReal :=
  A.res b s d * inv (A.res b s) * A.fg (ix1 d)

end Cert.Mix
-- ==== Proof.Mix.Tile.lean ====
/- The twenty blocks a grid point works on, and which entries of the argument arrays they hold. Both layers' calls have the
   same blocks. -/
module
public import proofs.«01_k».proof.Proof.Gen.KernelIdeal.Value
public import proofs.«01_k».proof.Proof.Mix.Spec
public import Idealize.ShloMosaic.Lib.Pipeline.ValueKit
@[expose] public section
set_option maxRecDepth 16384
noncomputable section
namespace Cert.KernelIdeal.Value
open Cert.KernelIdeal Cert.KernelIdeal.Gen Idealize.ShloMosaic Idealize.ShloMosaic.TcCoe Idealize.SL.Sem

/-- The blocks of one grid point: the tile, the rows before it and the rows after it of the stream and of the two mixers'
    outputs, then the rows, matrices and vectors. -/
structure Blocks where
  w0 : Vec Ideal S1x512x1024 .f32
  w1 : Vec Ideal S1x16x1024 .f32
  w2 : Vec Ideal S1x16x1024 .f32
  w3 : Vec Ideal S1x512x512 .bf16
  w4 : Vec Ideal S1x16x512 .bf16
  w5 : Vec Ideal S1x16x512 .bf16
  w6 : Vec Ideal S1x512x512 .bf16
  w7 : Vec Ideal S1x16x512 .bf16
  w8 : Vec Ideal S1x16x512 .bf16
  w9 : Vec Ideal S1x1x1024 .f32
  w10 : Vec Ideal S2x512x1024 .bf16
  w11 : Vec Ideal S1x1024 .f32
  w12 : Vec Ideal S1x1x1024 .f32
  w13 : Vec Ideal S1x1x1024 .f32
  w14 : Vec Ideal S1x1x1024 .f32
  w15 : Vec Ideal S1024x5632 .bf16
  w16 : Vec Ideal S3x2816 .f32
  w17 : Vec Ideal S1x2816 .f32
  w18 : Vec Ideal S2816x1024 .bf16
  w19 : Vec Ideal S1x1024 .f32

/-- The blocks hold the arguments' entries for batch `b` and the tile of rows that starts at `512 j`; at the first tile the rows
    before it are its own first rows, and at the last tile the rows after it its own last rows. -/
structure Blocks.Reads (B : Blocks) (A : Cert.Mix.Args) (b : Fin 32) (j : Fin 4) : Prop where
  blk0 : ∀ (r : Fin 512) (d : Fin 1024) (s : Fin 2048), s.val = j.val * 512 + r.val → B.w0 (ix3 0 r d) = A.x (ix3 b s d)
  blk1 : ∀ (r : Fin 16) (d : Fin 1024) (s : Fin 2048), s.val = (32 * j.val - 1) * 16 + r.val → B.w1 (ix3 0 r d) = A.x (ix3 b s d)
  blk2 : ∀ (r : Fin 16) (d : Fin 1024) (s : Fin 2048), s.val = min (32 * (j.val + 1)) 127 * 16 + r.val → B.w2 (ix3 0 r d) = A.x (ix3 b s d)
  blk3 : ∀ (r : Fin 512) (d : Fin 512) (s : Fin 2048), s.val = j.val * 512 + r.val → B.w3 (ix3 0 r d) = A.ya (ix3 b s d)
  blk4 : ∀ (r : Fin 16) (d : Fin 512) (s : Fin 2048), s.val = (32 * j.val - 1) * 16 + r.val → B.w4 (ix3 0 r d) = A.ya (ix3 b s d)
  blk5 : ∀ (r : Fin 16) (d : Fin 512) (s : Fin 2048), s.val = min (32 * (j.val + 1)) 127 * 16 + r.val → B.w5 (ix3 0 r d) = A.ya (ix3 b s d)
  blk6 : ∀ (r : Fin 512) (d : Fin 512) (s : Fin 2048), s.val = j.val * 512 + r.val → B.w6 (ix3 0 r d) = A.yb (ix3 b s d)
  blk7 : ∀ (r : Fin 16) (d : Fin 512) (s : Fin 2048), s.val = (32 * j.val - 1) * 16 + r.val → B.w7 (ix3 0 r d) = A.yb (ix3 b s d)
  blk8 : ∀ (r : Fin 16) (d : Fin 512) (s : Fin 2048), s.val = min (32 * (j.val + 1)) 127 * 16 + r.val → B.w8 (ix3 0 r d) = A.yb (ix3 b s d)
  blk9 : ∀ d : Fin 1024, B.w9 (ix3 0 0 d) = A.mg (ix3 b 0 d)
  blk10 : ∀ (e : Fin 2) (r : Fin 512) (d : Fin 1024), B.w10 (ix3 e r d) = A.wo (ix2 ⟨e.val * 512 + r.val, by omega⟩ d)
  blk11 : ∀ d : Fin 1024, B.w11 (ix2 0 d) = A.g (ix1 d)
  blk12 : ∀ d : Fin 1024, B.w12 (ix3 0 0 d) = A.sc (ix3 b 0 d)
  blk13 : ∀ d : Fin 1024, B.w13 (ix3 0 0 d) = A.sh (ix3 b 0 d)
  blk14 : ∀ d : Fin 1024, B.w14 (ix3 0 0 d) = A.gt (ix3 b 0 d)
  blk15 : ∀ (r : Fin 1024) (d : Fin 5632), B.w15 (ix2 r d) = A.wu (ix2 r d)
  blk16 : ∀ (r : Fin 3) (d : Fin 2816), B.w16 (ix2 r d) = A.cw (ix2 r d)
  blk17 : ∀ d : Fin 2816, B.w17 (ix2 0 d) = A.cb (ix1 d)
  blk18 : ∀ (r : Fin 2816) (d : Fin 1024), B.w18 (ix2 r d) = A.wd (ix2 r d)
  blk19 : ∀ d : Fin 1024, B.w19 (ix2 0 d) = A.fg (ix1 d)

end Cert.KernelIdeal.Value
-- ==== Proof.Mix.Rows.lean ====
/- The rows of one grid point's tile with its halo: the stream after the mixers' projection, and the feed-forward's input. -/
module
public import proofs.«01_k».proof.Proof.Mix.Tile
@[expose] public section
set_option maxRecDepth 16384
noncomputable section
namespace Cert.KernelIdeal.Value
open Cert.KernelIdeal Cert.KernelIdeal.Gen Idealize.ShloMosaic Idealize.ShloMosaic.TcCoe Idealize.SL.Sem

/-- The mixers' projection of the tile's rows and their halo. -/
def mixt (B : Blocks) : FVec Ideal S544x1024 .f32 :=
  k0_pay2 B.w4 B.w3 B.w5
    (View.ld B.w10 (Rect.unit ![0, 0, 0] ![1, 512, 1024] inb_S2x512x1024_S1x512x1024_0_0_0))
    B.w7 B.w6 B.w8
    (View.ld B.w10 (Rect.unit ![1, 0, 0] ![1, 512, 1024] inb_S2x512x1024_S1x512x1024_1_0_0))

/-- The tile's rows and their halo after the projection is added. -/
def xat (B : Blocks) : FVec Ideal S544x1024 .f32 :=
  k0_pay5 (mixt B) (k0_pay3 B.w1) (k0_pay4 B.w0) B.w2 B.w9

/-- The tile's own rows of that. -/
def xmt (B : Blocks) : FVec Ideal S512x1024 .f32 :=
  k0_pay6 (mixt B) (k0_pay3 B.w1) (k0_pay4 B.w0) B.w2 B.w9

/-- The feed-forward's input rows. -/
def hbt (B : Blocks) : FVec Ideal S544x1024 .bf16 :=
  k0_pay7 (mixt B) (k0_pay3 B.w1) (k0_pay4 B.w0) B.w2 B.w9 B.w11
    B.w12 B.w13

/-- A row of the tile or its halo that lies inside the sequence is the stream's row at its position. -/
theorem xat_apply {B : Blocks} {A : Cert.Mix.Args} {b : Fin 32} {j : Fin 4} (h : B.Reads A b j) (q : Fin 544) (d : Fin 1024) (s : Fin 2048)
    (hs : s.val + 16 = j.val * 512 + q.val) : xat B (ix2 q d) = A.mid b s d := by
  unfold xat mixt Cert.Mix.Args.mid
  have hb0 := fun (k : Fin 512) => (h.blk10 0 k d).trans (congrArg (fun z => A.wo (ix2 z d)) (Fin.ext (by simp) : _ = (⟨k.val, by omega⟩ : Fin 1024)))
  have hb1 := fun (k : Fin 512) => (h.blk10 1 k d).trans (congrArg (fun z => A.wo (ix2 z d)) (Fin.ext (by simp) : _ = (⟨512 + k.val, by omega⟩ : Fin 1024)))
  pointwise [k0_pay5, k0_pay2, k0_pay3, k0_pay4]
  rw [h.blk9]
  rcases Nat.lt_or_ge q.val 16 with h1 | h1
  · have hx := h.blk1 ⟨q.val, h1⟩ d s (by simp only []; omega)
    have hya := fun k => h.blk4 ⟨q.val, h1⟩ k s (by simp only []; omega)
    have hyb := fun k => h.blk7 ⟨q.val, h1⟩ k s (by simp only []; omega)
    simp only [h1, dif_pos, hx, hya, hyb, hb0, hb1]
  · rcases Nat.lt_or_ge (q.val - 16) 512 with h2 | h2
    · have hx := h.blk0 ⟨q.val - 16, h2⟩ d s (by simp only []; omega)
      have hya := fun k => h.blk3 ⟨q.val - 16, h2⟩ k s (by simp only []; omega)
      have hyb := fun k => h.blk6 ⟨q.val - 16, h2⟩ k s (by simp only []; omega)
      simp only [not_lt.mpr h1, h2, dif_pos, dif_neg, not_false_eq_true, hx, hya, hyb, hb0, hb1]
    · have hx := h.blk2 ⟨q.val - 16 - 512, by omega⟩ d s (by simp only []; omega)
      have hya := fun k => h.blk5 ⟨q.val - 16 - 512, by omega⟩ k s (by simp only []; omega)
      have hyb := fun k => h.blk8 ⟨q.val - 16 - 512, by omega⟩ k s (by simp only []; omega)
      simp only [not_lt.mpr h1, not_lt.mpr h2, dif_neg, not_false_eq_true, hx, hya, hyb, hb0, hb1]

theorem xmt_apply {B : Blocks} {A : Cert.Mix.Args} {b : Fin 32} {j : Fin 4} (h : B.Reads A b j) (r : Fin 512) (d : Fin 1024) (s : Fin 2048)
    (hs : s.val = j.val * 512 + r.val) : xmt B (ix2 r d) = A.mid b s d := by
  refine Eq.trans ?_ (xat_apply h ⟨16 + r.val, by omega⟩ d s (by simp only []; omega))
  unfold xmt xat
  pointwise [k0_pay6]

/-- So the feed-forward's input there is the normalised, modulated row. -/
theorem hbt_apply {B : Blocks} {A : Cert.Mix.Args} {b : Fin 32} {j : Fin 4} (h : B.Reads A b j) (q : Fin 544) (d : Fin 1024) (s : Fin 2048)
    (hs : s.val + 16 = j.val * 512 + q.val) : hbt B (ix2 q d) = A.hid b s d := by
  have hx := fun d => xat_apply h q d s hs
  unfold xat at hx
  unfold hbt Cert.Mix.Args.hid Cert.Mix.Args.norm Cert.Mix.inv
  pointwise [k0_pay7]
  simp only [hx, h.blk11, h.blk12, h.blk13]

end Cert.KernelIdeal.Value
-- ==== Proof.Mix.Chunks.lean ====
/- One column chunk of the feed-forward's activation: what the kernel's body stores for it, at a row and column, is the
   activation of the tile at that chunk's columns. -/
module
public import proofs.«01_k».proof.Proof.Mix.Rows
public import Idealize.ShloMosaic.Lib.Pipeline.ReadBack
@[expose] public section
set_option maxRecDepth 16384
noncomputable section
namespace Cert.KernelIdeal.Value
open Cert.KernelIdeal Cert.KernelIdeal.Gen Idealize.ShloMosaic Idealize.ShloMosaic.TcCoe Idealize.SL.Sem

/-- The convolved value formed at a row and column of the tile, from the rows' mask `M`, the input rows `H`, the up
    projection `W`, the taps `C` and the bias `B`: the rows before and after are the tile's rows rolled by one. -/
def conv9 (M : IVec S544x1 1) (H : S544x1024.Idx → EReal) (W : S1024x5632.Idx → EReal) (C : S3x2816.Idx → EReal)
    (B : S1x2816.Idx → EReal) (r : Fin 512) (f : Fin 2816) : EReal :=
  Scalar.select (M (ix2 ⟨(16 + r.val + 544 - 1) % 544, by omega⟩ 0))
      (C (ix2 0 f) * ∑ x, H (ix2 ⟨(16 + r.val + 544 - 1) % 544, by omega⟩ x) * W (ix2 x ⟨f.val, by omega⟩)) 0
    + Scalar.select (M (ix2 ⟨16 + r.val, by omega⟩ 0))
      (C (ix2 1 f) * ∑ x, H (ix2 ⟨16 + r.val, by omega⟩ x) * W (ix2 x ⟨f.val, by omega⟩)) 0
    + Scalar.select (M (ix2 ⟨(16 + r.val + 544 - 543) % 544, by omega⟩ 0))
      (C (ix2 2 f) * ∑ x, H (ix2 ⟨(16 + r.val + 544 - 543) % 544, by omega⟩ x) * W (ix2 x ⟨f.val, by omega⟩)) 0
    + B (ix2 0 f)

/-- The activation formed there. -/
def act9 (M : IVec S544x1 1) (H : S544x1024.Idx → EReal) (W : S1024x5632.Idx → EReal) (C : S3x2816.Idx → EReal)
    (B : S1x2816.Idx → EReal) (r : Fin 512) (f : Fin 2816) : EReal :=
  conv9 M H W C B r f * Ideal.logistic (conv9 M H W C B r f)
    * ∑ x, H (ix2 ⟨16 + r.val, by omega⟩ x) * W (ix2 x ⟨2816 + f.val, by omega⟩)

variable (H : FVec Ideal S544x1024 .bf16) (M : IVec S544x1 1) (W : Vec Ideal S1024x5632 .bf16) (C : Vec Ideal S3x2816 .f32)
  (B : Vec Ideal S1x2816 .f32)

theorem chunk0 (a b : IVec S544x1 32) (r : Fin 512) (x : Fin 256) (f : Fin 2816) (h : f.val = 0 + x.val) :
    k0_pay12 (k0_pay11 H a b (View.ld W (Rect.unit ![0, 0] ![1024, 256] inb_S1024x5632_S1024x256_0_0)) (View.ld W (Rect.unit ![0, 2816] ![1024, 256] inb_S1024x5632_S1024x256_0_2816)) (View.ld C (Rect.unit ![0, 0] ![1, 256] inb_S3x2816_S1x256_0_0)) (View.ld C (Rect.unit ![1, 0] ![1, 256] inb_S3x2816_S1x256_1_0))
      (View.ld C (Rect.unit ![2, 0] ![1, 256] inb_S3x2816_S1x256_2_0)) (View.ld B (Rect.unit ![0, 0] ![1, 256] inb_S1x2816_S1x256_0_0))) (ix2 r x)
    = act9 (k0_pay10 a b) H W C B r f := by
  obtain rfl : f = ⟨0 + x.val, by clear h; omega⟩ := Fin.ext h
  pointwise [k0_pay12, k0_pay11]
  unfold act9 conv9
  simp only [Nat.zero_add]

theorem chunk1 (r : Fin 512) (x : Fin 256) (f : Fin 2816) (h : f.val = 256 + x.val) :
    k0_pay13 H M (View.ld W (Rect.unit ![0, 256] ![1024, 256] inb_S1024x5632_S1024x256_0_256)) (View.ld W (Rect.unit ![0, 3072] ![1024, 256] inb_S1024x5632_S1024x256_0_3072)) (View.ld C (Rect.unit ![0, 256] ![1, 256] inb_S3x2816_S1x256_0_256)) (View.ld C (Rect.unit ![1, 256] ![1, 256] inb_S3x2816_S1x256_1_256))
      (View.ld C (Rect.unit ![2, 256] ![1, 256] inb_S3x2816_S1x256_2_256)) (View.ld B (Rect.unit ![0, 256] ![1, 256] inb_S1x2816_S1x256_0_256)) (ix2 r x)
    = act9 M H W C B r f := by
  obtain rfl : f = ⟨256 + x.val, by clear h; omega⟩ := Fin.ext h
  pointwise [k0_pay13]
  unfold act9 conv9
  simp only [← Nat.add_assoc, Nat.reduceAdd]

theorem chunk2 (r : Fin 512) (x : Fin 256) (f : Fin 2816) (h : f.val = 512 + x.val) :
    k0_pay14 H M (View.ld W (Rect.unit ![0, 512] ![1024, 256] inb_S1024x5632_S1024x256_0_512)) (View.ld W (Rect.unit ![0, 3328] ![1024, 256] inb_S1024x5632_S1024x256_0_3328)) (View.ld C (Rect.unit ![0, 512] ![1, 256] inb_S3x2816_S1x256_0_512)) (View.ld C (Rect.unit ![1, 512] ![1, 256] inb_S3x2816_S1x256_1_512))
      (View.ld C (Rect.unit ![2, 512] ![1, 256] inb_S3x2816_S1x256_2_512)) (View.ld B (Rect.unit ![0, 512] ![1, 256] inb_S1x2816_S1x256_0_512)) (ix2 r x)
    = act9 M H W C B r f := by
  obtain rfl : f = ⟨512 + x.val, by clear h; omega⟩ := Fin.ext h
  pointwise [k0_pay14]
  unfold act9 conv9
  simp only [← Nat.add_assoc, Nat.reduceAdd]

theorem chunk3 (r : Fin 512) (x : Fin 256) (f : Fin 2816) (h : f.val = 768 + x.val) :
    k0_pay15 H M (View.ld W (Rect.unit ![0, 768] ![1024, 256] inb_S1024x5632_S1024x256_0_768)) (View.ld W (Rect.unit ![0, 3584] ![1024, 256] inb_S1024x5632_S1024x256_0_3584)) (View.ld C (Rect.unit ![0, 768] ![1, 256] inb_S3x2816_S1x256_0_768)) (View.ld C (Rect.unit ![1, 768] ![1, 256] inb_S3x2816_S1x256_1_768))
      (View.ld C (Rect.unit ![2, 768] ![1, 256] inb_S3x2816_S1x256_2_768)) (View.ld B (Rect.unit ![0, 768] ![1, 256] inb_S1x2816_S1x256_0_768)) (ix2 r x)
    = act9 M H W C B r f := by
  obtain rfl : f = ⟨768 + x.val, by clear h; omega⟩ := Fin.ext h
  pointwise [k0_pay15]
  unfold act9 conv9
  simp only [← Nat.add_assoc, Nat.reduceAdd]

theorem chunk4 (r : Fin 512) (x : Fin 256) (f : Fin 2816) (h : f.val = 1024 + x.val) :
    k0_pay16 H M (View.ld W (Rect.unit ![0, 1024] ![1024, 256] inb_S1024x5632_S1024x256_0_1024)) (View.ld W (Rect.unit ![0, 3840] ![1024, 256] inb_S1024x5632_S1024x256_0_3840)) (View.ld C (Rect.unit ![0, 1024] ![1, 256] inb_S3x2816_S1x256_0_1024)) (View.ld C (Rect.unit ![1, 1024] ![1, 256] inb_S3x2816_S1x256_1_1024))
      (View.ld C (Rect.unit ![2, 1024] ![1, 256] inb_S3x2816_S1x256_2_1024)) (View.ld B (Rect.unit ![0, 1024] ![1, 256] inb_S1x2816_S1x256_0_1024)) (ix2 r x)
    = act9 M H W C B r f := by
  obtain rfl : f = ⟨1024 + x.val, by clear h; omega⟩ := Fin.ext h
  pointwise [k0_pay16]
  unfold act9 conv9
  simp only [← Nat.add_assoc, Nat.reduceAdd]

theorem chunk5 (r : Fin 512) (x : Fin 256) (f : Fin 2816) (h : f.val = 1280 + x.val) :
    k0_pay18 H M (k0_pay17 (View.ld W (Rect.unit ![0, 1280] ![1024, 256] inb_S1024x5632_S1024x256_0_1280))) (constant S544x256 .f32 0x00000000#32) (View.ld W (Rect.unit ![0, 4096] ![1024, 256] inb_S1024x5632_S1024x256_0_4096)) (View.ld C (Rect.unit ![0, 1280] ![1, 256] inb_S3x2816_S1x256_0_1280)) (View.ld C (Rect.unit ![1, 1280] ![1, 256] inb_S3x2816_S1x256_1_1280))
      (View.ld C (Rect.unit ![2, 1280] ![1, 256] inb_S3x2816_S1x256_2_1280)) (View.ld B (Rect.unit ![0, 1280] ![1, 256] inb_S1x2816_S1x256_0_1280)) (ix2 r x)
    = act9 M H W C B r f := by
  obtain rfl : f = ⟨1280 + x.val, by clear h; omega⟩ := Fin.ext h
  pointwise [k0_pay18, k0_pay17]
  unfold act9 conv9
  simp only [← Nat.add_assoc, Nat.reduceAdd]

theorem chunk6 (r : Fin 512) (x : Fin 256) (f : Fin 2816) (h : f.val = 1536 + x.val) :
    k0_pay20 H M (k0_pay19 H (View.ld W (Rect.unit ![0, 1536] ![1024, 256] inb_S1024x5632_S1024x256_0_1536))) (Scalar.ofBits .f32 0x00000000#32) (View.ld W (Rect.unit ![0, 4352] ![1024, 256] inb_S1024x5632_S1024x256_0_4352)) (View.ld C (Rect.unit ![0, 1536] ![1, 256] inb_S3x2816_S1x256_0_1536)) (View.ld C (Rect.unit ![1, 1536] ![1, 256] inb_S3x2816_S1x256_1_1536))
      (View.ld C (Rect.unit ![2, 1536] ![1, 256] inb_S3x2816_S1x256_2_1536)) (View.ld B (Rect.unit ![0, 1536] ![1, 256] inb_S1x2816_S1x256_0_1536)) (ix2 r x)
    = act9 M H W C B r f := by
  obtain rfl : f = ⟨1536 + x.val, by clear h; omega⟩ := Fin.ext h
  pointwise [k0_pay20, k0_pay19]
  unfold act9 conv9
  simp only [← Nat.add_assoc, Nat.reduceAdd]

theorem chunk7 (r : Fin 512) (x : Fin 256) (f : Fin 2816) (h : f.val = 1792 + x.val) :
    k0_pay23 H (k0_pay21 H (View.ld W (Rect.unit ![0, 1792] ![1024, 256] inb_S1024x5632_S1024x256_0_1792))) (Scalar.ofBits .f32 0x00000000#32) (k0_pay22 M) (View.ld W (Rect.unit ![0, 4608] ![1024, 256] inb_S1024x5632_S1024x256_0_4608)) (View.ld C (Rect.unit ![0, 1792] ![1, 256] inb_S3x2816_S1x256_0_1792)) (View.ld C (Rect.unit ![1, 1792] ![1, 256] inb_S3x2816_S1x256_1_1792))
      (View.ld C (Rect.unit ![2, 1792] ![1, 256] inb_S3x2816_S1x256_2_1792)) (View.ld B (Rect.unit ![0, 1792] ![1, 256] inb_S1x2816_S1x256_0_1792)) (ix2 r x)
    = act9 M H W C B r f := by
  obtain rfl : f = ⟨1792 + x.val, by clear h; omega⟩ := Fin.ext h
  pointwise [k0_pay23, k0_pay21, k0_pay22]
  unfold act9 conv9
  simp only [← Nat.add_assoc, Nat.reduceAdd]

theorem chunk8 (r : Fin 512) (x : Fin 256) (f : Fin 2816) (h : f.val = 2048 + x.val) :
    k0_pay25 H (k0_pay24 H M (View.ld W (Rect.unit ![0, 2048] ![1024, 256] inb_S1024x5632_S1024x256_0_2048))) (View.ld W (Rect.unit ![0, 4864] ![1024, 256] inb_S1024x5632_S1024x256_0_4864)) (View.ld C (Rect.unit ![0, 2048] ![1, 256] inb_S3x2816_S1x256_0_2048)) (View.ld C (Rect.unit ![1, 2048] ![1, 256] inb_S3x2816_S1x256_1_2048))
      (View.ld C (Rect.unit ![2, 2048] ![1, 256] inb_S3x2816_S1x256_2_2048)) (View.ld B (Rect.unit ![0, 2048] ![1, 256] inb_S1x2816_S1x256_0_2048)) (ix2 r x)
    = act9 M H W C B r f := by
  obtain rfl : f = ⟨2048 + x.val, by clear h; omega⟩ := Fin.ext h
  pointwise [k0_pay25, k0_pay24]
  unfold act9 conv9
  simp only [← Nat.add_assoc, Nat.reduceAdd]

theorem chunk9 (r : Fin 512) (x : Fin 256) (f : Fin 2816) (h : f.val = 2304 + x.val) :
    k0_pay28 (k0_pay26 H M (View.ld W (Rect.unit ![0, 2304] ![1024, 256] inb_S1024x5632_S1024x256_0_2304))) (k0_pay27 H) (View.ld W (Rect.unit ![0, 5120] ![1024, 256] inb_S1024x5632_S1024x256_0_5120)) (View.ld C (Rect.unit ![0, 2304] ![1, 256] inb_S3x2816_S1x256_0_2304)) (View.ld C (Rect.unit ![1, 2304] ![1, 256] inb_S3x2816_S1x256_1_2304))
      (View.ld C (Rect.unit ![2, 2304] ![1, 256] inb_S3x2816_S1x256_2_2304)) (View.ld B (Rect.unit ![0, 2304] ![1, 256] inb_S1x2816_S1x256_0_2304)) (ix2 r x)
    = act9 M H W C B r f := by
  obtain rfl : f = ⟨2304 + x.val, by clear h; omega⟩ := Fin.ext h
  pointwise [k0_pay28, k0_pay26, k0_pay27]
  unfold act9 conv9
  simp only [← Nat.add_assoc, Nat.reduceAdd]

theorem chunk10 (r : Fin 512) (x : Fin 256) (f : Fin 2816) (h : f.val = 2560 + x.val) :
    k0_pay31 (k0_pay29 H M (View.ld W (Rect.unit ![0, 2560] ![1024, 256] inb_S1024x5632_S1024x256_0_2560))) (k0_pay30 H) (View.ld W (Rect.unit ![0, 5376] ![1024, 256] inb_S1024x5632_S1024x256_0_5376)) (View.ld C (Rect.unit ![0, 2560] ![1, 256] inb_S3x2816_S1x256_0_2560)) (View.ld C (Rect.unit ![1, 2560] ![1, 256] inb_S3x2816_S1x256_1_2560))
      (View.ld C (Rect.unit ![2, 2560] ![1, 256] inb_S3x2816_S1x256_2_2560)) (View.ld B (Rect.unit ![0, 2560] ![1, 256] inb_S1x2816_S1x256_0_2560)) (ix2 r x)
    = act9 M H W C B r f := by
  obtain rfl : f = ⟨2560 + x.val, by clear h; omega⟩ := Fin.ext h
  pointwise [k0_pay31, k0_pay29, k0_pay30]
  unfold act9 conv9
  simp only [← Nat.add_assoc, Nat.reduceAdd]

end Cert.KernelIdeal.Value
-- ==== Proof.Mix.Act.lean ====
/- The feed-forward's activation over one grid point's tile: the eleven column chunks the kernel writes are the activation
   of the plain statement, column by column. -/
module
public import proofs.«01_k».proof.Proof.Mix.Chunks
public import Idealize.ShloMosaic.Lib.Pipeline.ReadBack
@[expose] public section
set_option maxRecDepth 16384
noncomputable section
namespace Cert.KernelIdeal.Value
open Cert.KernelIdeal Cert.KernelIdeal.Gen Idealize.ShloMosaic Idealize.ShloMosaic.TcCoe Idealize.SL.Sem

/-- Which of the rows and halo rows of the tile with number `w` lie inside the sequence. -/
def inside (w : BitVec 32) : IVec S544x1 1 := k0_pay10 (k0_pay8 w) k0_pay9

theorem inside_word : ∀ (j : Fin 4) (q : Fin 544),
    IntOp.andi
      (IntOp.cmpi CmpIPredicate.sge (IntOp.addi (Scalar.subi (Scalar.muli (BitVec.ofNat 32 j.val) 512#32) 16#32) (BitVec.ofNat 32 ↑q)) 0#32)
      (IntOp.cmpi CmpIPredicate.slt (IntOp.addi (Scalar.subi (Scalar.muli (BitVec.ofNat 32 j.val) 512#32) 16#32) (BitVec.ofNat 32 ↑q))
        2048#32) = if 16 ≤ j.val * 512 + q.val ∧ j.val * 512 + q.val < 2064 then 1#1 else 0#1 := by decide +kernel

theorem inside_apply (j : Fin 4) (q : Fin 544) :
    inside (BitVec.ofNat 32 j.val) (ix2 q 0) = if 16 ≤ j.val * 512 + q.val ∧ j.val * 512 + q.val < 2064 then 1#1 else 0#1 := by
  have h := inside_word j q
  unfold inside
  pointwise [k0_pay10, k0_pay8, k0_pay9]
  exact h

/-- The convolved value and the activation at a grid point. -/
def convt (B : Blocks) (w : BitVec 32) : Fin 512 → Fin 2816 → EReal := conv9 (inside w) (hbt B) B.w15 B.w16 B.w17
def actt (B : Blocks) (w : BitVec 32) : Fin 512 → Fin 2816 → EReal := act9 (inside w) (hbt B) B.w15 B.w16 B.w17

section
variable {B : Blocks} {A : Cert.Mix.Args} {b : Fin 32} {j : Fin 4} (h : B.Reads A b j)
include h

theorem up_apply (q : Fin 544) (s : Fin 2048) (f : Fin 5632) (hs : s.val + 16 = j.val * 512 + q.val) :
    (∑ x, (hbt B (ix2 q x) : EReal) * (B.w15 (ix2 x f) : EReal)) = A.up b s f := by
  unfold Cert.Mix.Args.up
  exact Finset.sum_congr rfl fun x _ => congrArg₂ (· * ·) (hbt_apply h q x s hs) (h.blk15 x f)

theorem convt_eq (r : Fin 512) (f : Fin 2816) (s : Fin 2048) (hs : s.val = j.val * 512 + r.val) :
    convt B (BitVec.ofNat 32 j.val) r f = A.conv b s f := by
  unfold convt conv9 Cert.Mix.Args.conv Cert.Mix.Args.before Cert.Mix.Args.after
  refine congrArg₂ (· + ·) (congrArg₂ (· + ·) (congrArg₂ (· + ·) ?_ ?_) ?_) (h.blk17 f)
  · rw [inside_apply]
    by_cases h1 : 1 ≤ s.val
    · rw [dif_pos h1, if_pos (by simp only []; omega)]
      exact congrArg₂ (· * ·) (h.blk16 0 f) (up_apply h _ ⟨s.val - 1, by omega⟩ _ (by simp only []; omega))
    · rw [dif_neg h1, if_neg (by simp only []; omega)]; rfl
  · rw [inside_apply, if_pos (by simp only []; omega)]
    exact congrArg₂ (· * ·) (h.blk16 1 f) (up_apply h _ s _ (by simp only []; omega))
  · rw [inside_apply]
    by_cases h1 : s.val + 1 < 2048
    · rw [dif_pos h1, if_pos (by simp only []; omega)]
      exact congrArg₂ (· * ·) (h.blk16 2 f) (up_apply h _ ⟨s.val + 1, h1⟩ _ (by simp only []; omega))
    · rw [dif_neg h1, if_neg (by simp only []; omega)]; rfl

/-- The tile's activation is the plain one. -/
theorem actt_eq (r : Fin 512) (f : Fin 2816) (s : Fin 2048) (hs : s.val = j.val * 512 + r.val) :
    actt B (BitVec.ofNat 32 j.val) r f = A.act b s f := by
  have hc := convt_eq h r f s hs
  unfold convt at hc
  unfold actt act9 Cert.Mix.Args.act
  rw [hc]
  exact congrArg _ (up_apply h _ s _ (by simp only []; omega))

/-- The stream of the tile's rows plus the gated down projection of the activation. -/
theorem rest (r : Fin 512) (d : Fin 1024) (s : Fin 2048) (hs : s.val = j.val * 512 + r.val) :
    k0_pay32 (xmt B) B.w14 (fun y => actt B (BitVec.ofNat 32 j.val) (y 0) (y 1)) B.w18 (ix2 r d) = A.res b s d := by
  unfold Cert.Mix.Args.res
  pointwise [k0_pay32]
  refine congrArg₂ (· + ·) (xmt_apply h r d s hs) (congrArg₂ (· * ·) (h.blk14 d) ?_)
  exact Finset.sum_congr rfl fun f _ => congrArg₂ (· * ·) (actt_eq h r f s hs) (h.blk18 f d)

end

/-- What the kernel's body stores into its activation buffer at a grid point, the last column chunk first. -/
def stored (B : Blocks) (w : BitVec 32) : List (View.Piece (Elt Ideal) S512x2816 .bf16) :=
  [
    ⟨Rect.unit ![0, 2560] ![512, 256] inb_S512x2816_S512x256_0_2560,
      k0_pay31 (k0_pay29 (hbt B) (inside w) (View.ld B.w15 (Rect.unit ![0, 2560] ![1024, 256] inb_S1024x5632_S1024x256_0_2560))) (k0_pay30 (hbt B)) (View.ld B.w15 (Rect.unit ![0, 5376] ![1024, 256] inb_S1024x5632_S1024x256_0_5376)) (View.ld B.w16 (Rect.unit ![0, 2560] ![1, 256] inb_S3x2816_S1x256_0_2560)) (View.ld B.w16 (Rect.unit ![1, 2560] ![1, 256] inb_S3x2816_S1x256_1_2560)) (View.ld B.w16 (Rect.unit ![2, 2560] ![1, 256] inb_S3x2816_S1x256_2_2560)) (View.ld B.w17 (Rect.unit ![0, 2560] ![1, 256] inb_S1x2816_S1x256_0_2560))⟩,
    ⟨Rect.unit ![0, 2304] ![512, 256] inb_S512x2816_S512x256_0_2304,
      k0_pay28 (k0_pay26 (hbt B) (inside w) (View.ld B.w15 (Rect.unit ![0, 2304] ![1024, 256] inb_S1024x5632_S1024x256_0_2304))) (k0_pay27 (hbt B)) (View.ld B.w15 (Rect.unit ![0, 5120] ![1024, 256] inb_S1024x5632_S1024x256_0_5120)) (View.ld B.w16 (Rect.unit ![0, 2304] ![1, 256] inb_S3x2816_S1x256_0_2304)) (View.ld B.w16 (Rect.unit ![1, 2304] ![1, 256] inb_S3x2816_S1x256_1_2304)) (View.ld B.w16 (Rect.unit ![2, 2304] ![1, 256] inb_S3x2816_S1x256_2_2304)) (View.ld B.w17 (Rect.unit ![0, 2304] ![1, 256] inb_S1x2816_S1x256_0_2304))⟩,
    ⟨Rect.unit ![0, 2048] ![512, 256] inb_S512x2816_S512x256_0_2048,
      k0_pay25 (hbt B) (k0_pay24 (hbt B) (inside w) (View.ld B.w15 (Rect.unit ![0, 2048] ![1024, 256] inb_S1024x5632_S1024x256_0_2048))) (View.ld B.w15 (Rect.unit ![0, 4864] ![1024, 256] inb_S1024x5632_S1024x256_0_4864)) (View.ld B.w16 (Rect.unit ![0, 2048] ![1, 256] inb_S3x2816_S1x256_0_2048)) (View.ld B.w16 (Rect.unit ![1, 2048] ![1, 256] inb_S3x2816_S1x256_1_2048)) (View.ld B.w16 (Rect.unit ![2, 2048] ![1, 256] inb_S3x2816_S1x256_2_2048)) (View.ld B.w17 (Rect.unit ![0, 2048] ![1, 256] inb_S1x2816_S1x256_0_2048))⟩,
    ⟨Rect.unit ![0, 1792] ![512, 256] inb_S512x2816_S512x256_0_1792,
      k0_pay23 (hbt B) (k0_pay21 (hbt B) (View.ld B.w15 (Rect.unit ![0, 1792] ![1024, 256] inb_S1024x5632_S1024x256_0_1792))) (Scalar.ofBits .f32 0x00000000#32) (k0_pay22 (inside w)) (View.ld B.w15 (Rect.unit ![0, 4608] ![1024, 256] inb_S1024x5632_S1024x256_0_4608)) (View.ld B.w16 (Rect.unit ![0, 1792] ![1, 256] inb_S3x2816_S1x256_0_1792)) (View.ld B.w16 (Rect.unit ![1, 1792] ![1, 256] inb_S3x2816_S1x256_1_1792)) (View.ld B.w16 (Rect.unit ![2, 1792] ![1, 256] inb_S3x2816_S1x256_2_1792)) (View.ld B.w17 (Rect.unit ![0, 1792] ![1, 256] inb_S1x2816_S1x256_0_1792))⟩,
    ⟨Rect.unit ![0, 1536] ![512, 256] inb_S512x2816_S512x256_0_1536,
      k0_pay20 (hbt B) (inside w) (k0_pay19 (hbt B) (View.ld B.w15 (Rect.unit ![0, 1536] ![1024, 256] inb_S1024x5632_S1024x256_0_1536))) (Scalar.ofBits .f32 0x00000000#32) (View.ld B.w15 (Rect.unit ![0, 4352] ![1024, 256] inb_S1024x5632_S1024x256_0_4352)) (View.ld B.w16 (Rect.unit ![0, 1536] ![1, 256] inb_S3x2816_S1x256_0_1536)) (View.ld B.w16 (Rect.unit ![1, 1536] ![1, 256] inb_S3x2816_S1x256_1_1536)) (View.ld B.w16 (Rect.unit ![2, 1536] ![1, 256] inb_S3x2816_S1x256_2_1536)) (View.ld B.w17 (Rect.unit ![0, 1536] ![1, 256] inb_S1x2816_S1x256_0_1536))⟩,
    ⟨Rect.unit ![0, 1280] ![512, 256] inb_S512x2816_S512x256_0_1280,
      k0_pay18 (hbt B) (inside w) (k0_pay17 (View.ld B.w15 (Rect.unit ![0, 1280] ![1024, 256] inb_S1024x5632_S1024x256_0_1280))) (constant S544x256 .f32 0x00000000#32) (View.ld B.w15 (Rect.unit ![0, 4096] ![1024, 256] inb_S1024x5632_S1024x256_0_4096)) (View.ld B.w16 (Rect.unit ![0, 1280] ![1, 256] inb_S3x2816_S1x256_0_1280)) (View.ld B.w16 (Rect.unit ![1, 1280] ![1, 256] inb_S3x2816_S1x256_1_1280)) (View.ld B.w16 (Rect.unit ![2, 1280] ![1, 256] inb_S3x2816_S1x256_2_1280)) (View.ld B.w17 (Rect.unit ![0, 1280] ![1, 256] inb_S1x2816_S1x256_0_1280))⟩,
    ⟨Rect.unit ![0, 1024] ![512, 256] inb_S512x2816_S512x256_0_1024,
      k0_pay16 (hbt B) (inside w) (View.ld B.w15 (Rect.unit ![0, 1024] ![1024, 256] inb_S1024x5632_S1024x256_0_1024)) (View.ld B.w15 (Rect.unit ![0, 3840] ![1024, 256] inb_S1024x5632_S1024x256_0_3840)) (View.ld B.w16 (Rect.unit ![0, 1024] ![1, 256] inb_S3x2816_S1x256_0_1024)) (View.ld B.w16 (Rect.unit ![1, 1024] ![1, 256] inb_S3x2816_S1x256_1_1024)) (View.ld B.w16 (Rect.unit ![2, 1024] ![1, 256] inb_S3x2816_S1x256_2_1024)) (View.ld B.w17 (Rect.unit ![0, 1024] ![1, 256] inb_S1x2816_S1x256_0_1024))⟩,
    ⟨Rect.unit ![0, 768] ![512, 256] inb_S512x2816_S512x256_0_768,
      k0_pay15 (hbt B) (inside w) (View.ld B.w15 (Rect.unit ![0, 768] ![1024, 256] inb_S1024x5632_S1024x256_0_768)) (View.ld B.w15 (Rect.unit ![0, 3584] ![1024, 256] inb_S1024x5632_S1024x256_0_3584)) (View.ld B.w16 (Rect.unit ![0, 768] ![1, 256] inb_S3x2816_S1x256_0_768)) (View.ld B.w16 (Rect.unit ![1, 768] ![1, 256] inb_S3x2816_S1x256_1_768)) (View.ld B.w16 (Rect.unit ![2, 768] ![1, 256] inb_S3x2816_S1x256_2_768)) (View.ld B.w17 (Rect.unit ![0, 768] ![1, 256] inb_S1x2816_S1x256_0_768))⟩,
    ⟨Rect.unit ![0, 512] ![512, 256] inb_S512x2816_S512x256_0_512,
      k0_pay14 (hbt B) (inside w) (View.ld B.w15 (Rect.unit ![0, 512] ![1024, 256] inb_S1024x5632_S1024x256_0_512)) (View.ld B.w15 (Rect.unit ![0, 3328] ![1024, 256] inb_S1024x5632_S1024x256_0_3328)) (View.ld B.w16 (Rect.unit ![0, 512] ![1, 256] inb_S3x2816_S1x256_0_512)) (View.ld B.w16 (Rect.unit ![1, 512] ![1, 256] inb_S3x2816_S1x256_1_512)) (View.ld B.w16 (Rect.unit ![2, 512] ![1, 256] inb_S3x2816_S1x256_2_512)) (View.ld B.w17 (Rect.unit ![0, 512] ![1, 256] inb_S1x2816_S1x256_0_512))⟩,
    ⟨Rect.unit ![0, 256] ![512, 256] inb_S512x2816_S512x256_0_256,
      k0_pay13 (hbt B) (inside w) (View.ld B.w15 (Rect.unit ![0, 256] ![1024, 256] inb_S1024x5632_S1024x256_0_256)) (View.ld B.w15 (Rect.unit ![0, 3072] ![1024, 256] inb_S1024x5632_S1024x256_0_3072)) (View.ld B.w16 (Rect.unit ![0, 256] ![1, 256] inb_S3x2816_S1x256_0_256)) (View.ld B.w16 (Rect.unit ![1, 256] ![1, 256] inb_S3x2816_S1x256_1_256)) (View.ld B.w16 (Rect.unit ![2, 256] ![1, 256] inb_S3x2816_S1x256_2_256)) (View.ld B.w17 (Rect.unit ![0, 256] ![1, 256] inb_S1x2816_S1x256_0_256))⟩,
    ⟨Rect.unit ![0, 0] ![512, 256] inb_S512x2816_S512x256_0_0,
      k0_pay12 (k0_pay11 (hbt B) (k0_pay8 w) k0_pay9 (View.ld B.w15 (Rect.unit ![0, 0] ![1024, 256] inb_S1024x5632_S1024x256_0_0)) (View.ld B.w15 (Rect.unit ![0, 2816] ![1024, 256] inb_S1024x5632_S1024x256_0_2816)) (View.ld B.w16 (Rect.unit ![0, 0] ![1, 256] inb_S3x2816_S1x256_0_0)) (View.ld B.w16 (Rect.unit ![1, 0] ![1, 256] inb_S3x2816_S1x256_1_0)) (View.ld B.w16 (Rect.unit ![2, 0] ![1, 256] inb_S3x2816_S1x256_2_0)) (View.ld B.w17 (Rect.unit ![0, 0] ![1, 256] inb_S1x2816_S1x256_0_0)))⟩]

/-- An index of a column chunk, as a row and a column. -/
theorem chunk_idx (x : (⟨2, ![512, 256]⟩ : Shape).Idx) : ∃ (a : Fin 512) (b : Fin 256), x = ix2 a b := ⟨x 0, x 1, eq_ix2 x⟩

/-- The buffer read back is the activation. -/
theorem stored_eq (B : Blocks) (w : BitVec 32) (v : View sig .tc .vmem S512x2816 .bf16) :
    v.readCov (stored B w) (Rect.unit ![0, 0] ![512, 2816] inb_S512x2816_S512x2816_0_0).toLoadRect
      = fun y => actt B w (y 0) (y 1) := by
  rw [View.readCov_eq_canon']
  funext y
  refine Eq.trans (b := View.canon (stored B w) y) (congrArg _ (by funext a; fin_cases a <;> apply Fin.ext <;> simp)) ?_
  unfold stored
  canon_tiles x h
  case piece10 => obtain ⟨x0, x1, rfl⟩ := chunk_idx x; obtain rfl : y 0 = x0 := Fin.ext h0; exact chunk0 (hbt B) B.w15 B.w16 B.w17 _ _ (y 0) x1 (y 1) (h1.trans (Nat.zero_add _).symm)
  case piece9 => obtain ⟨x0, x1, rfl⟩ := chunk_idx x; obtain rfl : y 0 = x0 := Fin.ext h0; exact chunk1 (hbt B) (inside w) B.w15 B.w16 B.w17 (y 0) x1 (y 1) h1
  case piece8 => obtain ⟨x0, x1, rfl⟩ := chunk_idx x; obtain rfl : y 0 = x0 := Fin.ext h0; exact chunk2 (hbt B) (inside w) B.w15 B.w16 B.w17 (y 0) x1 (y 1) h1
  case piece7 => obtain ⟨x0, x1, rfl⟩ := chunk_idx x; obtain rfl : y 0 = x0 := Fin.ext h0; exact chunk3 (hbt B) (inside w) B.w15 B.w16 B.w17 (y 0) x1 (y 1) h1
  case piece6 => obtain ⟨x0, x1, rfl⟩ := chunk_idx x; obtain rfl : y 0 = x0 := Fin.ext h0; exact chunk4 (hbt B) (inside w) B.w15 B.w16 B.w17 (y 0) x1 (y 1) h1
  case piece5 => obtain ⟨x0, x1, rfl⟩ := chunk_idx x; obtain rfl : y 0 = x0 := Fin.ext h0; exact chunk5 (hbt B) (inside w) B.w15 B.w16 B.w17 (y 0) x1 (y 1) h1
  case piece4 => obtain ⟨x0, x1, rfl⟩ := chunk_idx x; obtain rfl : y 0 = x0 := Fin.ext h0; exact chunk6 (hbt B) (inside w) B.w15 B.w16 B.w17 (y 0) x1 (y 1) h1
  case piece3 => obtain ⟨x0, x1, rfl⟩ := chunk_idx x; obtain rfl : y 0 = x0 := Fin.ext h0; exact chunk7 (hbt B) (inside w) B.w15 B.w16 B.w17 (y 0) x1 (y 1) h1
  case piece2 => obtain ⟨x0, x1, rfl⟩ := chunk_idx x; obtain rfl : y 0 = x0 := Fin.ext h0; exact chunk8 (hbt B) (inside w) B.w15 B.w16 B.w17 (y 0) x1 (y 1) h1
  case piece1 => obtain ⟨x0, x1, rfl⟩ := chunk_idx x; obtain rfl : y 0 = x0 := Fin.ext h0; exact chunk9 (hbt B) (inside w) B.w15 B.w16 B.w17 (y 0) x1 (y 1) h1
  case piece0 => obtain ⟨x0, x1, rfl⟩ := chunk_idx x; obtain rfl : y 0 = x0 := Fin.ext h0; exact chunk10 (hbt B) (inside w) B.w15 B.w16 B.w17 (y 0) x1 (y 1) h1

end Cert.KernelIdeal.Value
-- ==== Proof.Mix.Blocks.lean ====
/- Each window's block at a grid point, read as the argument array it was taken from. -/
module
public import proofs.«01_k».proof.Proof.Gen.KernelIdeal.Value
public import proofs.«01_k».proof.Proof.Mix.Act
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)

/-- The kernel's arguments as the launch finds them. -/
def args (c : Dev nD) : Cert.Mix.Args where
  x := m ((c : Thread nD τ).loc main_arg0)
  ya := m ((c : Thread nD τ).loc main_arg1)
  yb := m ((c : Thread nD τ).loc main_arg2)
  mg := m ((c : Thread nD τ).loc main_arg3)
  wo := m ((c : Thread nD τ).loc main_arg4)
  g := m ((c : Thread nD τ).loc main_arg5)
  sc := m ((c : Thread nD τ).loc main_arg6)
  sh := m ((c : Thread nD τ).loc main_arg7)
  gt := m ((c : Thread nD τ).loc main_arg8)
  wu := m ((c : Thread nD τ).loc main_arg9)
  cw := m ((c : Thread nD τ).loc main_arg10)
  cb := m ((c : Thread nD τ).loc main_arg11)
  wd := m ((c : Thread nD τ).loc main_arg12)
  fg := m ((c : Thread nD τ).loc main_arg13)

/-- The windows' block indices at every grid point. -/
theorem idx : ∀ t : Fin cfg0.N,
    win0_0.index t = ![t.val / 4, t.val % 4, 0] ∧ win0_1.index t = ![t.val / 4, 32 * (t.val % 4) - 1, 0] ∧
    win0_2.index t = ![t.val / 4, min (32 * (t.val % 4 + 1)) 127, 0] ∧
    win0_3.index t = ![t.val / 4, t.val % 4, 0] ∧ win0_4.index t = ![t.val / 4, 32 * (t.val % 4) - 1, 0] ∧
    win0_5.index t = ![t.val / 4, min (32 * (t.val % 4 + 1)) 127, 0] ∧
    win0_6.index t = ![t.val / 4, t.val % 4, 0] ∧ win0_7.index t = ![t.val / 4, 32 * (t.val % 4) - 1, 0] ∧
    win0_8.index t = ![t.val / 4, min (32 * (t.val % 4 + 1)) 127, 0] ∧
    win0_9.index t = ![t.val / 4, 0, 0] ∧ win0_10.index t = ![0, 0, 0] ∧ win0_11.index t = ![0, 0] ∧
    win0_12.index t = ![t.val / 4, 0, 0] ∧ win0_13.index t = ![t.val / 4, 0, 0] ∧ win0_14.index t = ![t.val / 4, 0, 0] ∧
    win0_15.index t = ![0, 0] ∧ win0_16.index t = ![0, 0] ∧ win0_17.index t = ![0, 0] ∧ win0_18.index t = ![0, 0] ∧
    win0_19.index t = ![0, 0] ∧ win0_20.index t = ![t.val / 4, t.val % 4, 0] ∧ (grid0.coords t 1).val = t.val % 4 ∧ t.val < 128 :=
  (by decide +kernel : ∀ t : Fin grid0.N, _)

/-- A grid point's batch. -/
def bat (t : Fin cfg0.N) : Fin 32 := ⟨t.val / 4, by have := idx t; omega⟩

/-- The tile of `x` at a grid point. -/
theorem blk0 (c : Dev nD) (t : Fin cfg0.N) (r : Fin 512) (d : Fin 1024) (s : Fin 2048) (hs : s.val = t.val % 4 * 512 + r.val) :
    iblk m c 0 t (ix3 0 r d) = (args m c).x (ix3 (bat t) s d) := by
  unfold args bat; blk_ext [iblk, V, idx t]

/-- The sixteen rows before the tile (at the first tile, its own first rows). -/
theorem blk1 (c : Dev nD) (t : Fin cfg0.N) (r : Fin 16) (d : Fin 1024) (s : Fin 2048) (hs : s.val = (32 * (t.val % 4) - 1) * 16 + r.val) :
    iblk m c 1 t (ix3 0 r d) = (args m c).x (ix3 (bat t) s d) := by
  unfold args bat; blk_ext [iblk, V, idx t]

/-- The sixteen rows after the tile (at the last tile, its own last rows). -/
theorem blk2 (c : Dev nD) (t : Fin cfg0.N) (r : Fin 16) (d : Fin 1024) (s : Fin 2048) (hs : s.val = min (32 * (t.val % 4 + 1)) 127 * 16 + r.val) :
    iblk m c 2 t (ix3 0 r d) = (args m c).x (ix3 (bat t) s d) := by
  unfold args bat; blk_ext [iblk, V, idx t]

/-- The tile of `ya` at a grid point. -/
theorem blk3 (c : Dev nD) (t : Fin cfg0.N) (r : Fin 512) (d : Fin 512) (s : Fin 2048) (hs : s.val = t.val % 4 * 512 + r.val) :
    iblk m c 3 t (ix3 0 r d) = (args m c).ya (ix3 (bat t) s d) := by
  unfold args bat; blk_ext [iblk, V, idx t]

/-- The sixteen rows before the tile (at the first tile, its own first rows). -/
theorem blk4 (c : Dev nD) (t : Fin cfg0.N) (r : Fin 16) (d : Fin 512) (s : Fin 2048) (hs : s.val = (32 * (t.val % 4) - 1) * 16 + r.val) :
    iblk m c 4 t (ix3 0 r d) = (args m c).ya (ix3 (bat t) s d) := by
  unfold args bat; blk_ext [iblk, V, idx t]

/-- The sixteen rows after the tile (at the last tile, its own last rows). -/
theorem blk5 (c : Dev nD) (t : Fin cfg0.N) (r : Fin 16) (d : Fin 512) (s : Fin 2048) (hs : s.val = min (32 * (t.val % 4 + 1)) 127 * 16 + r.val) :
    iblk m c 5 t (ix3 0 r d) = (args m c).ya (ix3 (bat t) s d) := by
  unfold args bat; blk_ext [iblk, V, idx t]

/-- The tile of `yb` at a grid point. -/
theorem blk6 (c : Dev nD) (t : Fin cfg0.N) (r : Fin 512) (d : Fin 512) (s : Fin 2048) (hs : s.val = t.val % 4 * 512 + r.val) :
    iblk m c 6 t (ix3 0 r d) = (args m c).yb (ix3 (bat t) s d) := by
  unfold args bat; blk_ext [iblk, V, idx t]

/-- The sixteen rows before the tile (at the first tile, its own first rows). -/
theorem blk7 (c : Dev nD) (t : Fin cfg0.N) (r : Fin 16) (d : Fin 512) (s : Fin 2048) (hs : s.val = (32 * (t.val % 4) - 1) * 16 + r.val) :
    iblk m c 7 t (ix3 0 r d) = (args m c).yb (ix3 (bat t) s d) := by
  unfold args bat; blk_ext [iblk, V, idx t]

/-- The sixteen rows after the tile (at the last tile, its own last rows). -/
theorem blk8 (c : Dev nD) (t : Fin cfg0.N) (r : Fin 16) (d : Fin 512) (s : Fin 2048) (hs : s.val = min (32 * (t.val % 4 + 1)) 127 * 16 + r.val) :
    iblk m c 8 t (ix3 0 r d) = (args m c).yb (ix3 (bat t) s d) := by
  unfold args bat; blk_ext [iblk, V, idx t]

/-- The batch's row of `mg`. -/
theorem blk9 (c : Dev nD) (t : Fin cfg0.N) (d : Fin 1024) : iblk m c 9 t (ix3 0 0 d) = (args m c).mg (ix3 (bat t) 0 d) := by
  unfold args bat; blk_ext [iblk, V, idx t]

/-- What the host leaves for the kernel's matrices and vectors: the arguments, reshaped. -/
theorem V_wo (c : Dev nD) : V m c main_v1 = fun i => (args m c).wo (ix2 ⟨(i 0).val * 512 + (i 1).val, by have := (i 0).isLt; have := (i 1).isLt; simp at *; omega⟩ (i 2)) := by
  unfold args V; after_results; funext i; idx_vars i; pointwise
theorem V_g (c : Dev nD) : V m c main_v2 = fun i => (args m c).g (ix1 (i 1)) := by
  unfold args V; after_results; funext i; idx_vars i; pointwise
theorem V_wu (c : Dev nD) : V m c main_v3 = (args m c).wu := by
  unfold args V; after_results; funext i; idx_vars i; pointwise
theorem V_cb (c : Dev nD) : V m c main_v4 = fun i => (args m c).cb (ix1 (i 1)) := by
  unfold args V; after_results; funext i; idx_vars i; pointwise
theorem V_wd (c : Dev nD) : V m c main_v5 = (args m c).wd := by
  unfold args V; after_results; funext i; idx_vars i; pointwise
theorem V_fg (c : Dev nD) : V m c main_v6 = fun i => (args m c).fg (ix1 (i 1)) := by
  unfold args V; after_results; funext i; idx_vars i; pointwise

theorem blk10 (c : Dev nD) (t : Fin cfg0.N) (e : Fin 2) (r : Fin 512) (d : Fin 1024) :
    iblk m c 10 t (ix3 e r d) = (args m c).wo (ix2 ⟨e.val * 512 + r.val, by omega⟩ d) := by
  refine Eq.trans (b := V m c main_v1 (ix3 e r d)) ?_ (congrFun (V_wo m c) _)
  blk_ext [iblk, idx t]

theorem blk11 (c : Dev nD) (t : Fin cfg0.N) (d : Fin 1024) : iblk m c 11 t (ix2 0 d) = (args m c).g (ix1 d) := by
  refine Eq.trans (b := V m c main_v2 (ix2 0 d)) ?_ (congrFun (V_g m c) _)
  blk_ext [iblk, idx t]

/-- The batch's row of `sc`. -/
theorem blk12 (c : Dev nD) (t : Fin cfg0.N) (d : Fin 1024) : iblk m c 12 t (ix3 0 0 d) = (args m c).sc (ix3 (bat t) 0 d) := by
  unfold args bat; blk_ext [iblk, V, idx t]

/-- The batch's row of `sh`. -/
theorem blk13 (c : Dev nD) (t : Fin cfg0.N) (d : Fin 1024) : iblk m c 13 t (ix3 0 0 d) = (args m c).sh (ix3 (bat t) 0 d) := by
  unfold args bat; blk_ext [iblk, V, idx t]

/-- The batch's row of `gt`. -/
theorem blk14 (c : Dev nD) (t : Fin cfg0.N) (d : Fin 1024) : iblk m c 14 t (ix3 0 0 d) = (args m c).gt (ix3 (bat t) 0 d) := by
  unfold args bat; blk_ext [iblk, V, idx t]

theorem blk15 (c : Dev nD) (t : Fin cfg0.N) (r : Fin 1024) (d : Fin 5632) : iblk m c 15 t (ix2 r d) = (args m c).wu (ix2 r d) := by
  refine Eq.trans (b := V m c main_v3 (ix2 r d)) ?_ (congrFun (V_wu m c) _)
  blk_ext [iblk, idx t]

theorem blk16 (c : Dev nD) (t : Fin cfg0.N) (r : Fin 3) (d : Fin 2816) : iblk m c 16 t (ix2 r d) = (args m c).cw (ix2 r d) := by
  unfold args; blk_ext [iblk, V, idx t]

theorem blk17 (c : Dev nD) (t : Fin cfg0.N) (d : Fin 2816) : iblk m c 17 t (ix2 0 d) = (args m c).cb (ix1 d) := by
  refine Eq.trans (b := V m c main_v4 (ix2 0 d)) ?_ (congrFun (V_cb m c) _)
  blk_ext [iblk, idx t]

theorem blk18 (c : Dev nD) (t : Fin cfg0.N) (r : Fin 2816) (d : Fin 1024) : iblk m c 18 t (ix2 r d) = (args m c).wd (ix2 r d) := by
  refine Eq.trans (b := V m c main_v5 (ix2 r d)) ?_ (congrFun (V_wd m c) _)
  blk_ext [iblk, idx t]

theorem blk19 (c : Dev nD) (t : Fin cfg0.N) (d : Fin 1024) : iblk m c 19 t (ix2 0 d) = (args m c).fg (ix1 d) := by
  refine Eq.trans (b := V m c main_v6 (ix2 0 d)) ?_ (congrFun (V_fg m c) _)
  blk_ext [iblk, idx t]

/-- The blocks at a grid point, together. -/
def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- A grid point's tile number. -/
def til (t : Fin cfg0.N) : Fin 4 := ⟨t.val % 4, Nat.mod_lt _ (by decide)⟩

theorem reads (c : Dev nD) (t : Fin cfg0.N) : (blocks m c t).Reads (args m c) (bat t) (til t) :=
  ⟨blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t⟩

end Cert.KernelIdeal.Value
-- ==== Proof.Mix.Final.lean ====
/- The result's array after the run: at every batch, position and channel, the plain statement over the arguments. -/
module
public import proofs.«01_k».proof.Proof.Mix.Blocks
public import proofs.«01_k».proof.Proof.Gen.KernelIdeal.Value
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)

/-- What a grid point leaves in the result's tile: the stream, plus the gated down projection of the activation, normalised. -/
theorem outs_eq (c : Dev nD) (t : Fin cfg0.N) :
    outsAt0 m c t = k0_pay1 (k0_pay32 (xmt (blocks m c t)) (iblk m c 14 t)
      (fun y => actt (blocks m c t) (BitVec.ofNat 32 ↑(grid0.coords t 1)) (y 0) (y 1)) (iblk m c 18 t)) (iblk m c 19 t) := by
  unfold outsAt0 blocks
  frame_open
  simp (disch := decide) only [↓ View.readCov_skip, ↓ View.readCov_cons_toLoadRect, ↓ View.readCov_fill]
  frame_out
  generalize iblk m c 0 t = w0, iblk m c 1 t = w1, iblk m c 2 t = w2, iblk m c 3 t = w3, iblk m c 4 t = w4,
    iblk m c 5 t = w5, iblk m c 6 t = w6, iblk m c 7 t = w7, iblk m c 8 t = w8, iblk m c 9 t = w9,
    iblk m c 10 t = w10, iblk m c 11 t = w11, iblk m c 12 t = w12, iblk m c 13 t = w13, iblk m c 14 t = w14,
    iblk m c 15 t = w15, iblk m c 16 t = w16, iblk m c 17 t = w17, iblk m c 18 t = w18, iblk m c 19 t = w19
  exact congrArg (fun a => k0_pay1 (k0_pay32 (xmt ⟨w0, w1, w2, w3, w4, w5, w6, w7, w8, w9, w10, w11, w12, w13, w14, w15, w16, w17, w18, w19⟩) w14 a w18) w19)
    (stored_eq ⟨w0, w1, w2, w3, w4, w5, w6, w7, w8, w9, w10, w11, w12, w13, w14, w15, w16, w17, w18, w19⟩ _ _)

/-- What a grid point leaves, at a row and channel of its tile. -/
theorem outs_apply (c : Dev nD) (t : Fin cfg0.N) (e : Fin 1) (r : Fin 512) (d : Fin 1024) (s : Fin 2048)
    (hs : s.val = t.val % 4 * 512 + r.val) : outsAt0 m c t (ix3 e r d) = (args m c).out (bat t) s d := by
  rw [outs_eq, show (grid0.coords t 1).val = (til t).val by have := idx t; unfold til; simp only []; omega]
  have h := fun d => rest (reads m c t) r d s hs
  unfold Cert.Mix.Args.out Cert.Mix.inv
  pointwise [k0_pay1]
  exact congrArg₂ (· * ·) (congrArg₂ (· * ·) (h d) (congrArg (fun z : EReal => Ideal.rsqrt (Ideal.div z _ + _))
    (Finset.sum_congr rfl fun x _ => congrArg₂ (· * ·) (h x) (h x)))) (blk19 m c t d)

/-- The result's array after the run. -/
theorem final (c : Dev nD) :
    (dats m 0 c).arrAt 20 (cfgs 0).N = fun i => (args m c).out (i 0) (i 1) (i 2) := by
  refine (dats m 0 c).arrAt_eq_of_covers 20 _ (by decide +kernel) fun t _ y => ?_
  blk_simp
  rw [after0_20]
  obtain ⟨e, r, d, rfl⟩ : ∃ (e : Fin 1) (r : Fin 512) (d : Fin 1024), y = ix3 e r d := ⟨y 0, y 1, y 2, eq_ix3 y⟩
  have h4 := Nat.mod_lt t.val (show 0 < 4 by decide)
  refine (outs_apply m c t e r d ⟨t.val % 4 * 512 + r.val, by omega⟩ rfl).trans ?_
  refine congrArg (fun i : S32x2048x1024.Idx => (args m c).out (i 0) (i 1) (i 2))
    (?_ : ix3 (bat t) ⟨t.val % 4 * 512 + r.val, _⟩ d = (win0_20.blk t).view.emb (ix3 e r d))
  unfold bat
  blk_ext [idx t]

end Cert.KernelIdeal.Value
-- ==== Proof.Mix.Ref.lean ====
/- What the reference computes: its result at every batch, position and channel is the plain statement. One lemma per stage. -/
module
public import proofs.«01_k».proof.Proof.Mix.Spec
public import proofs.«01_k».proof.Proof.Gen.ReferenceIdeal.Read
public import Idealize.ShloMosaic.Lib.Pointwise
public import Idealize.ShloMosaic.Lib.KernelVsHost
@[expose] public section
set_option maxRecDepth 16384
noncomputable section
namespace Cert.ReferenceIdeal.Value
open Cert.ReferenceIdeal Cert.ReferenceIdeal.Gen Cert.ReferenceIdeal.Read Idealize.ShloMosaic Idealize.ShloMosaic.TcCoe Idealize.SL.Sem
variable (A : Cert.Mix.Args)

theorem mid_apply (b : Fin 32) (s : Fin 2048) (d : Fin 1024) :
    val_main_v6 (F := Ideal) A.x A.ya A.yb A.mg A.wo (ix3 b s d) = A.mid b s d := by
  unfold Cert.Mix.Args.mid
  pointwise [val_main_v6, val_main_v5, val_main_v4, val_main_v3, val_main_v2, val_main_v1, val_main_v0]

/-- The feed-forward's input. -/
theorem hid_apply (b : Fin 32) (s : Fin 2048) (d : Fin 1024) :
    val_main_v25 (F := Ideal) A.x A.ya A.yb A.mg A.wo A.g A.sc A.sh (ix3 b s d) = A.hid b s d := by
  have h := fun d => mid_apply A b s d
  unfold Cert.Mix.Args.hid Cert.Mix.Args.norm Cert.Mix.inv
  pointwise [val_main_v25, val_main_v24, val_main_v23, val_main_v22, val_main_v21, val_main_v20, val_main_cst_2, val_main_v19,
    val_main_v18, val_main_v17, val_main_v16, val_main_v15, val_main_v14, val_main_v13, val_main_v12, val_main_cst_1, val_main_v11,
    val_main_v10, val_main_cst_0, val_main_v9, val_main_v8, val_main_cst, val_main_v7]
  simp only [h]

/-- The up projection. -/
theorem up_apply (b : Fin 32) (s : Fin 2048) (f : Fin 5632) :
    val_main_v26 (F := Ideal) A.x A.ya A.yb A.mg A.wo A.g A.sc A.sh A.wu (ix3 b s f) = A.up b s f := by
  have h := fun d => hid_apply A b s d
  unfold Cert.Mix.Args.up
  pointwise [val_main_v26]
  simp only [h]

/-- The convolution over positions. -/
theorem conv_apply (b : Fin 32) (s : Fin 2048) (f : Fin 2816) :
    val_main_v52 (F := Ideal) A.x A.ya A.yb A.mg A.wo A.g A.sc A.sh A.wu A.cw A.cb (ix3 b s f) = A.conv b s f := by
  unfold Cert.Mix.Args.conv Cert.Mix.Args.before Cert.Mix.Args.after
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34,
    val_main_v33, val_main_v32, val_main_v31, val_main_v30, val_main_v29, val_main_v27, val_main_c, val_main_call0_v0, val_main_c_3,
    val_main_call1_v0]
  have h := fun s => up_apply A b s ⟨f.val, by omega⟩
  have hz : (FloatOps.sitofp (F := Ideal) FTy.f32 (0#32) : EReal) = 0 := sitofp_zero
  rw [hz]
  simp only [h]
  congr 3
  · by_cases h1 : 1 ≤ s.val
    · rw [dif_pos h1, dif_pos ⟨h1, by omega⟩]
    · rw [dif_neg h1, dif_neg (fun h' => h1 h'.1), mul_zero]
  · by_cases h1 : s.val + 1 < 2048
    · rw [dif_pos h1, dif_pos (by omega)]
      exact congrArg (fun z => A.cw (ix2 2 f) * A.up b z ⟨f.val, _⟩) (Fin.ext (Nat.add_comm 1 s.val))
    · rw [dif_neg h1, dif_neg (by omega), mul_zero]

/-- The activation. -/
theorem act_apply (b : Fin 32) (s : Fin 2048) (f : Fin 2816) :
    val_main_v54 (F := Ideal) A.x A.ya A.yb A.mg A.wo A.g A.sc A.sh A.wu A.cw A.cb (ix3 b s f) = A.act b s f := by
  have h := conv_apply A b s f
  have h' := up_apply A b s ⟨2816 + f.val, by omega⟩
  unfold Cert.Mix.Args.act
  pointwise [val_main_v54, val_main_v53, val_main_call2_v5, val_main_call2_v4, val_main_call2_v3, val_main_call2_v2, val_main_call2_v1,
    val_main_call2_v0, val_main_call2_cst, val_main_call2_cst_0, val_main_v28]
  rw [h, h']
  rfl

/-- The stream after the feed-forward. -/
theorem res_apply (b : Fin 32) (s : Fin 2048) (d : Fin 1024) :
    val_main_v58 (F := Ideal) A.x A.ya A.yb A.mg A.wo A.g A.sc A.sh A.gt A.wu A.cw A.cb A.wd (ix3 b s d) = A.res b s d := by
  have h := fun f => act_apply A b s f
  have h' := mid_apply A b s d
  unfold Cert.Mix.Args.res
  pointwise [val_main_v58, val_main_v57, val_main_v56, val_main_v55]
  simp only [h, h']

/-- The result. -/
theorem out_apply (b : Fin 32) (s : Fin 2048) (d : Fin 1024) :
    val_main_v71 (F := Ideal) A.x A.ya A.yb A.mg A.wo A.g A.sc A.sh A.gt A.wu A.cw A.cb A.wd A.fg (ix3 b s d) = A.out b s d := by
  have h := fun d => res_apply A b s d
  unfold Cert.Mix.Args.out Cert.Mix.inv
  pointwise [val_main_v71, val_main_v70, val_main_v69, val_main_v68, val_main_v67, val_main_v66, val_main_v65, val_main_v64, val_main_cst_6,
    val_main_v63, val_main_v62, val_main_cst_5, val_main_v61, val_main_v60, val_main_cst_4, val_main_v59]
  simp only [h]

theorem out_eq : val_main_v71 (F := Ideal) A.x A.ya A.yb A.mg A.wo A.g A.sc A.sh A.gt A.wu A.cw A.cb A.wd A.fg
    = fun i => A.out (i 0) (i 1) (i 2) := by
  funext i
  obtain ⟨b, s, d, rfl⟩ : ∃ (b : Fin 32) (s : Fin 2048) (d : Fin 1024), i = ix3 b s d := ⟨i 0, i 1, i 2, eq_ix3 i⟩
  exact out_apply A b s d

end Cert.ReferenceIdeal.Value
-- ==== Proof.Mix2.Final.lean ====
/- The first layer's call: it is the last layer's without the final norm, on the same blocks, so its tile is the stream after
   the feed-forward. -/
module
public import proofs.«01_k».proof.Proof.Gen.Kernel2Ideal.Value
public import proofs.«01_k».proof.Proof.Mix.Blocks
@[expose] public section
set_option maxRecDepth 16384
noncomputable section
namespace Cert.Kernel2Ideal.Value
open Cert.Kernel2Ideal Cert.Kernel2Ideal.Gen Idealize.ShloMosaic Idealize.ShloMosaic.TcCoe Idealize.SL.Sem
open Cert.KernelIdeal.Value (Blocks args bat til reads xmt actt stored_eq rest)
variable (m : (ℓ : Loc nD τ sig) → Buf (Elt Ideal) ℓ)

/-- The two calls have the same buffers: a memory of the one is a memory of the other. -/
def same : (ℓ : Loc Cert.KernelIdeal.nD Cert.KernelIdeal.τ Cert.KernelIdeal.sig) → Buf (Elt Ideal) ℓ := m

/-- The blocks at a grid point. -/
def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

/-- They are the other call's blocks. -/
theorem blocks_reads (c : Dev nD) (t : Fin cfg0.N) : (blocks m c t).Reads (args (same m) c) (bat t) (til t) := reads (same m) c t

/-- What a grid point leaves in the result's tile: the stream plus the gated down projection of the activation. -/
theorem outs_eq (c : Dev nD) (t : Fin cfg0.N) :
    outsAt0 m c t = k0_pay1 (k0_pay32 (xmt (blocks m c t)) (iblk m c 14 t)
      (fun y => actt (blocks m c t) (BitVec.ofNat 32 ↑(grid0.coords t 1)) (y 0) (y 1)) (iblk m c 18 t)) := by
  unfold outsAt0 blocks
  frame_open
  simp (disch := decide) only [↓ View.readCov_skip, ↓ View.readCov_cons_toLoadRect, ↓ View.readCov_fill]
  frame_out
  generalize iblk m c 0 t = w0, iblk m c 1 t = w1, iblk m c 2 t = w2, iblk m c 3 t = w3, iblk m c 4 t = w4,
    iblk m c 5 t = w5, iblk m c 6 t = w6, iblk m c 7 t = w7, iblk m c 8 t = w8, iblk m c 9 t = w9,
    iblk m c 10 t = w10, iblk m c 11 t = w11, iblk m c 12 t = w12, iblk m c 13 t = w13, iblk m c 14 t = w14,
    iblk m c 15 t = w15, iblk m c 16 t = w16, iblk m c 17 t = w17, iblk m c 18 t = w18, iblk m c 19 t = w19
  exact congrArg (fun a => k0_pay1 (k0_pay32 (xmt ⟨w0, w1, w2, w3, w4, w5, w6, w7, w8, w9, w10, w11, w12, w13, w14, w15, w16, w17, w18, w19⟩) w14 a w18))
    (stored_eq ⟨w0, w1, w2, w3, w4, w5, w6, w7, w8, w9, w10, w11, w12, w13, w14, w15, w16, w17, w18, w19⟩ _ _)

/-- The windows of the result and the tile number along the grid. -/
theorem idx : ∀ t : Fin cfg0.N, win0_20.index t = ![t.val / 4, t.val % 4, 0] ∧ (grid0.coords t 1).val = t.val % 4 ∧ t.val < 128 :=
  (by decide +kernel : ∀ t : Fin grid0.N, _)

/-- What a grid point leaves, at a row and channel of its tile. -/
theorem outs_apply (c : Dev nD) (t : Fin cfg0.N) (e : Fin 1) (r : Fin 512) (d : Fin 1024) (s : Fin 2048)
    (hs : s.val = t.val % 4 * 512 + r.val) : outsAt0 m c t (ix3 e r d) = (args (same m) c).res (bat t) s d := by
  rw [outs_eq, show (grid0.coords t 1).val = (til t).val by have := idx t; unfold til; simp only []; omega]
  refine Eq.trans ?_ (rest (blocks_reads m c t) r d s hs)
  pointwise [k0_pay1]
  rfl

/-- The result's array after the run. -/
theorem final (c : Dev nD) :
    (dats m 0 c).arrAt 20 (cfgs 0).N = fun i => (args (same m) c).res (i 0) (i 1) (i 2) := by
  refine (dats m 0 c).arrAt_eq_of_covers 20 _ (by decide +kernel) fun t _ y => ?_
  blk_simp
  rw [after0_20]
  obtain ⟨e, r, d, rfl⟩ : ∃ (e : Fin 1) (r : Fin 512) (d : Fin 1024), y = ix3 e r d := ⟨y 0, y 1, y 2, eq_ix3 y⟩
  have h4 := Nat.mod_lt t.val (show 0 < 4 by decide)
  refine (outs_apply m c t e r d ⟨t.val % 4 * 512 + r.val, by omega⟩ rfl).trans ?_
  refine congrArg (fun i : S32x2048x1024.Idx => (args (same m) c).res (i 0) (i 1) (i 2))
    (?_ : ix3 (bat t) ⟨t.val % 4 * 512 + r.val, _⟩ d = (win0_20.blk t).view.emb (ix3 e r d))
  unfold bat
  blk_ext [idx t]

end Cert.Kernel2Ideal.Value
-- ==== Proof.Mix2.Ref.lean ====
/- What the reference without the final norm computes. It is a stage of the reference with it. -/
module
public import proofs.«01_k».proof.Proof.Mix.Ref
public import proofs.«01_k».proof.Proof.Gen.Reference2Ideal.Read
@[expose] public section
set_option maxRecDepth 16384
noncomputable section
namespace Cert.Reference2Ideal.Value
open Cert.Reference2Ideal Cert.Reference2Ideal.Gen Idealize.ShloMosaic Idealize.ShloMosaic.TcCoe Idealize.SL.Sem
variable (A : Cert.Mix.Args)

theorem stage_eq : Cert.Reference2Ideal.Read.val_main_v58 (F := Ideal) A.x A.ya A.yb A.mg A.wo A.g A.sc A.sh A.gt A.wu A.cw A.cb A.wd
    = Cert.ReferenceIdeal.Read.val_main_v58 (F := Ideal) A.x A.ya A.yb A.mg A.wo A.g A.sc A.sh A.gt A.wu A.cw A.cb A.wd := rfl

theorem out_eq : Cert.Reference2Ideal.Read.val_main_v58 (F := Ideal) A.x A.ya A.yb A.mg A.wo A.g A.sc A.sh A.gt A.wu A.cw A.cb A.wd
    = fun i => A.res (i 0) (i 1) (i 2) := by
  rw [stage_eq]
  funext i
  obtain ⟨b, s, d, rfl⟩ : ∃ (b : Fin 32) (s : Fin 2048) (d : Fin 1024), i = ix3 b s d := ⟨i 0, i 1, i 2, eq_ix3 i⟩
  exact Cert.ReferenceIdeal.Value.res_apply A b s d

end Cert.Reference2Ideal.Value
-- ==== Proof.Proj.Spec.lean ====
/- What an input projection is, as plain sums over the extended reals: each row of the stream normalised, scaled, modulated
   with its batch's scale and shift, and multiplied by a matrix. -/
module
public import proofs.«01_k».proof.Proof.Mix.Spec
@[expose] public section
noncomputable section
namespace Cert.Proj
open Idealize.ShloMosaic

/-- The five arguments; the matrix has `n` columns. -/
structure Args (n : Nat) where
  x : (⟨3, ![32, 2048, 1024]⟩ : Shape).Idx → EReal
  g : (⟨1, ![1024]⟩ : Shape).Idx → EReal
  sc : (⟨3, ![32, 1, 1024]⟩ : Shape).Idx → EReal
  sh : (⟨3, ![32, 1, 1024]⟩ : Shape).Idx → EReal
  w : (⟨2, ![1024, n]⟩ : Shape).Idx → EReal

variable {n : Nat}

/-- A row of the stream, normalised, scaled and modulated. -/
def Args.hid (A : Args n) (b : Fin 32) (s : Fin 2048) (d : Fin 1024) : EReal :=
  A.x (ix3 b s d) * Cert.Mix.inv (fun d => A.x (ix3 b s d)) * A.g (ix1 d) * (1 + A.sc (ix3 b 0 d)) + A.sh (ix3 b 0 d)

/-- Its product with a column of the matrix. -/
def Args.out (A : Args n) (b : Fin 32) (s : Fin 2048) (f : Fin n) : EReal := ∑ d, A.hid b s d * A.w (ix2 d f)

/-- The columns from `o` on, as an array of `k` columns. -/
def Args.cols (A : Args n) (o k : Nat) (h : o + k ≤ n) (i : (⟨3, ![32, 2048, k]⟩ : Shape).Idx) : EReal :=
  A.out (i 0) (i 1) ⟨o + (i 2).val, Nat.lt_of_lt_of_le (Nat.add_lt_add_left (i 2).isLt o) h⟩

end Cert.Proj
-- ==== Proof.Proj.AB.lean ====
/- The first layer's input projection: both of its results hold, at every batch, position and column, the projection's entry. -/
module
public import proofs.«01_k».proof.Proof.Gen.Kernel3Ideal.Value
public import proofs.«01_k».proof.Proof.Proj.Spec
public import Idealize.ShloMosaic.Lib.Pipeline.ValueKit
@[expose] public section
set_option maxRecDepth 16384
noncomputable section
namespace Cert.Kernel3Ideal.Value
open Cert.Kernel3Ideal Cert.Kernel3Ideal.Gen Idealize.ShloMosaic Idealize.ShloMosaic.TcCoe Idealize.SL.Sem
variable (m : (ℓ : Loc nD τ sig) → Buf (Elt Ideal) ℓ)

/-- The arguments as the launch finds them. -/
def args (c : Dev nD) : Cert.Proj.Args 4480 where
  x := m ((c : Thread nD τ).loc main_arg0)
  g := m ((c : Thread nD τ).loc main_arg1)
  sc := m ((c : Thread nD τ).loc main_arg2)
  sh := m ((c : Thread nD τ).loc main_arg3)
  w := m ((c : Thread nD τ).loc main_arg4)

/-- The windows' block indices at every grid point. -/
theorem idx : ∀ t : Fin cfg0.N,
    win0_0.index t = ![t.val / 4, t.val % 4, 0] ∧ win0_1.index t = ![0, 0] ∧ win0_2.index t = ![t.val / 4, 0, 0] ∧
    win0_3.index t = ![t.val / 4, 0, 0] ∧ win0_4.index t = ![0, 0] ∧ win0_5.index t = ![t.val / 4, t.val % 4, 0] ∧
    win0_6.index t = ![t.val / 4, t.val % 4, 0] ∧ t.val < 128 :=
  (by decide +kernel : ∀ t : Fin grid0.N, _)

/-- A grid point's batch. -/
def bat (t : Fin cfg0.N) : Fin 32 := ⟨t.val / 4, by have := idx t; omega⟩

theorem blk0 (c : Dev nD) (t : Fin cfg0.N) (r : Fin 512) (d : Fin 1024) (s : Fin 2048) (hs : s.val = t.val % 4 * 512 + r.val) :
    iblk m c 0 t (ix3 0 r d) = (args m c).x (ix3 (bat t) s d) := by
  unfold args bat; blk_ext [iblk, V, idx t]

theorem V_g (c : Dev nD) : V m c main_v0 = fun i => (args m c).g (ix1 (i 1)) := by
  unfold args V; after_results; funext i; idx_vars i; pointwise
theorem V_w (c : Dev nD) : V m c main_v1 = (args m c).w := by
  unfold args V; after_results; funext i; idx_vars i; pointwise

theorem blk1 (c : Dev nD) (t : Fin cfg0.N) (d : Fin 1024) : iblk m c 1 t (ix2 0 d) = (args m c).g (ix1 d) := by
  refine Eq.trans (b := V m c main_v0 (ix2 0 d)) ?_ (congrFun (V_g m c) _)
  blk_ext [iblk, idx t]

theorem blk2 (c : Dev nD) (t : Fin cfg0.N) (d : Fin 1024) : iblk m c 2 t (ix3 0 0 d) = (args m c).sc (ix3 (bat t) 0 d) := by
  unfold args bat; blk_ext [iblk, V, idx t]

theorem blk3 (c : Dev nD) (t : Fin cfg0.N) (d : Fin 1024) : iblk m c 3 t (ix3 0 0 d) = (args m c).sh (ix3 (bat t) 0 d) := by
  unfold args bat; blk_ext [iblk, V, idx t]

theorem blk4 (c : Dev nD) (t : Fin cfg0.N) (r : Fin 1024) (f : Fin 4480) : iblk m c 4 t (ix2 r f) = (args m c).w (ix2 r f) := by
  refine Eq.trans (b := V m c main_v1 (ix2 r f)) ?_ (congrFun (V_w m c) _)
  blk_ext [iblk, idx t]

/-- The tile's rows, normalised and modulated. -/
theorem hid_apply (c : Dev nD) (t : Fin cfg0.N) (r : Fin 512) (d : Fin 1024) (s : Fin 2048) (hs : s.val = t.val % 4 * 512 + r.val) :
    k0_pay2 (iblk m c 0 t) (iblk m c 1 t) (iblk m c 2 t) (iblk m c 3 t) (ix2 r d) = (args m c).hid (bat t) s d := by
  have hx := fun d => blk0 m c t r d s hs
  unfold Cert.Proj.Args.hid Cert.Mix.inv
  pointwise [k0_pay2]
  simp only [hx, blk1, blk2, blk3]

/-- What the body stores for the first result, from any blocks: the product of the modulated rows with its columns. -/
theorem body5 (x0 : Vec Ideal S1x512x1024 .f32) (x1 : Vec Ideal S1x1024 .f32) (x2 x3 : Vec Ideal S1x1x1024 .f32)
    (x4 : Vec Ideal S1024x4480 .bf16) (e : Fin 1) (r : Fin 512) (f : Fin 2560) :
    out0_5 x0 x1 x2 x3 x4 (ix3 e r f)
      = ∑ d : Fin 1024, (k0_pay2 x0 x1 x2 x3 (ix2 r d) : EReal) * (x4 (ix2 d ⟨0 + f.val, by omega⟩) : EReal) := by
  unfold out0_5
  frame_out
  pointwise [k0_pay3]

/-- What a grid point leaves in the tile of the first result. -/
theorem outs5 (c : Dev nD) (t : Fin cfg0.N) (e : Fin 1) (r : Fin 512) (f : Fin 2560) (s : Fin 2048) (hs : s.val = t.val % 4 * 512 + r.val) :
    out0_5 (iblk m c 0 t) (iblk m c 1 t) (iblk m c 2 t) (iblk m c 3 t) (iblk m c 4 t) (ix3 e r f)
      = (args m c).out (bat t) s ⟨0 + f.val, by omega⟩ :=
  (body5 _ _ _ _ _ e r f).trans (Finset.sum_congr rfl fun d _ => congrArg₂ (· * ·) (hid_apply m c t r d s hs) (blk4 m c t d _))

/-- The first result's array after the run. -/
theorem final5 (c : Dev nD) :
    (dats m 0 c).arrAt 5 (cfgs 0).N = (args m c).cols 0 2560 (by decide) := by
  refine (dats m 0 c).arrAt_eq_of_covers 5 _ (by decide +kernel) fun t _ y => ?_
  blk_simp
  rw [after0_5]
  obtain ⟨e, r, f, rfl⟩ : ∃ (e : Fin 1) (r : Fin 512) (f : Fin 2560), y = ix3 e r f := ⟨y 0, y 1, y 2, eq_ix3 y⟩
  have h4 := Nat.mod_lt t.val (show 0 < 4 by decide)
  have key : (ix3 (bat t) ⟨t.val % 4 * 512 + r.val, by omega⟩ f : S32x2048x2560.Idx) = (win0_5.blk t).view.emb (ix3 e r f) := by
    unfold bat
    blk_ext [idx t]
  rw [← key]
  exact outs5 m c t e r f ⟨t.val % 4 * 512 + r.val, by omega⟩ rfl

/-- What the body stores for the second result, from any blocks: the product of the modulated rows with its columns. -/
theorem body6 (x0 : Vec Ideal S1x512x1024 .f32) (x1 : Vec Ideal S1x1024 .f32) (x2 x3 : Vec Ideal S1x1x1024 .f32)
    (x4 : Vec Ideal S1024x4480 .bf16) (e : Fin 1) (r : Fin 512) (f : Fin 1920) :
    out0_6 x0 x1 x2 x3 x4 (ix3 e r f)
      = ∑ d : Fin 1024, (k0_pay2 x0 x1 x2 x3 (ix2 r d) : EReal) * (x4 (ix2 d ⟨2560 + f.val, by omega⟩) : EReal) := by
  unfold out0_6
  frame_out
  pointwise [k0_pay1]

/-- What a grid point leaves in the tile of the second result. -/
theorem outs6 (c : Dev nD) (t : Fin cfg0.N) (e : Fin 1) (r : Fin 512) (f : Fin 1920) (s : Fin 2048) (hs : s.val = t.val % 4 * 512 + r.val) :
    out0_6 (iblk m c 0 t) (iblk m c 1 t) (iblk m c 2 t) (iblk m c 3 t) (iblk m c 4 t) (ix3 e r f)
      = (args m c).out (bat t) s ⟨2560 + f.val, by omega⟩ :=
  (body6 _ _ _ _ _ e r f).trans (Finset.sum_congr rfl fun d _ => congrArg₂ (· * ·) (hid_apply m c t r d s hs) (blk4 m c t d _))

/-- The second result's array after the run. -/
theorem final6 (c : Dev nD) :
    (dats m 0 c).arrAt 6 (cfgs 0).N = (args m c).cols 2560 1920 (by decide) := by
  refine (dats m 0 c).arrAt_eq_of_covers 6 _ (by decide +kernel) fun t _ y => ?_
  blk_simp
  rw [after0_6]
  obtain ⟨e, r, f, rfl⟩ : ∃ (e : Fin 1) (r : Fin 512) (f : Fin 1920), y = ix3 e r f := ⟨y 0, y 1, y 2, eq_ix3 y⟩
  have h4 := Nat.mod_lt t.val (show 0 < 4 by decide)
  have key : (ix3 (bat t) ⟨t.val % 4 * 512 + r.val, by omega⟩ f : S32x2048x1920.Idx) = (win0_6.blk t).view.emb (ix3 e r f) := by
    unfold bat
    blk_ext [idx t]
  rw [← key]
  exact outs6 m c t e r f ⟨t.val % 4 * 512 + r.val, by omega⟩ rfl

end Cert.Kernel3Ideal.Value
-- ==== Proof.Proj.ABRef.lean ====
/- What the reference computes for the first layer's input projection: the projection's entries. -/
module
public import proofs.«01_k».proof.Proof.Proj.Spec
public import proofs.«01_k».proof.Proof.Gen.Reference3Ideal.Read
public import Idealize.ShloMosaic.Lib.Pointwise
@[expose] public section
set_option maxRecDepth 16384
noncomputable section
namespace Cert.Reference3Ideal.Value
open Cert.Reference3Ideal Cert.Reference3Ideal.Gen Cert.Reference3Ideal.Read Idealize.ShloMosaic Idealize.ShloMosaic.TcCoe Idealize.SL.Sem
variable (A : Cert.Proj.Args 4480)

theorem hid_apply (b : Fin 32) (s : Fin 2048) (d : Fin 1024) :
    val_main_v18 (F := Ideal) A.x A.g A.sc A.sh (ix3 b s d) = A.hid b s d := by
  unfold Cert.Proj.Args.hid Cert.Mix.inv
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem out_apply (b : Fin 32) (s : Fin 2048) (f : Fin 4480) :
    val_main_v19 (F := Ideal) A.x A.g A.sc A.sh A.w (ix3 b s f) = A.out b s f := by
  have h := fun d => hid_apply A b s d
  unfold Cert.Proj.Args.out
  pointwise [val_main_v19]
  simp only [h]

theorem out20_eq : val_main_v20 (F := Ideal) A.x A.g A.sc A.sh A.w
    = A.cols 0 2560 (by decide) := by
  funext i
  obtain ⟨b, s, f, rfl⟩ : ∃ (b : Fin 32) (s : Fin 2048) (f : Fin 2560), i = ix3 b s f := ⟨i 0, i 1, i 2, eq_ix3 i⟩
  refine Eq.trans ?_ (out_apply A b s ⟨0 + f.val, by omega⟩)
  pointwise [val_main_v20]

theorem out21_eq : val_main_v21 (F := Ideal) A.x A.g A.sc A.sh A.w
    = A.cols 2560 1920 (by decide) := by
  funext i
  obtain ⟨b, s, f, rfl⟩ : ∃ (b : Fin 32) (s : Fin 2048) (f : Fin 1920), i = ix3 b s f := ⟨i 0, i 1, i 2, eq_ix3 i⟩
  refine Eq.trans ?_ (out_apply A b s ⟨2560 + f.val, by omega⟩)
  pointwise [val_main_v21]

end Cert.Reference3Ideal.Value
-- ==== Proof.Proj.CD.lean ====
/- The second layer's input projection: both of its results hold, at every batch, position and column, the projection's entry. -/
module
public import proofs.«01_k».proof.Proof.Gen.Kernel4Ideal.Value
public import proofs.«01_k».proof.Proof.Proj.Spec
public import Idealize.ShloMosaic.Lib.Pipeline.ValueKit
@[expose] public section
set_option maxRecDepth 16384
noncomputable section
namespace Cert.Kernel4Ideal.Value
open Cert.Kernel4Ideal Cert.Kernel4Ideal.Gen Idealize.ShloMosaic Idealize.ShloMosaic.TcCoe Idealize.SL.Sem
variable (m : (ℓ : Loc nD τ sig) → Buf (Elt Ideal) ℓ)

/-- The arguments as the launch finds them. -/
def args (c : Dev nD) : Cert.Proj.Args 1536 where
  x := m ((c : Thread nD τ).loc main_arg0)
  g := m ((c : Thread nD τ).loc main_arg1)
  sc := m ((c : Thread nD τ).loc main_arg2)
  sh := m ((c : Thread nD τ).loc main_arg3)
  w := m ((c : Thread nD τ).loc main_arg4)

/-- The windows' block indices at every grid point. -/
theorem idx : ∀ t : Fin cfg0.N,
    win0_0.index t = ![t.val / 4, t.val % 4, 0] ∧ win0_1.index t = ![0, 0] ∧ win0_2.index t = ![t.val / 4, 0, 0] ∧
    win0_3.index t = ![t.val / 4, 0, 0] ∧ win0_4.index t = ![0, 0] ∧ win0_5.index t = ![t.val / 4, t.val % 4, 0] ∧
    win0_6.index t = ![t.val / 4, t.val % 4, 0] ∧ t.val < 128 :=
  (by decide +kernel : ∀ t : Fin grid0.N, _)

/-- A grid point's batch. -/
def bat (t : Fin cfg0.N) : Fin 32 := ⟨t.val / 4, by have := idx t; omega⟩

theorem blk0 (c : Dev nD) (t : Fin cfg0.N) (r : Fin 512) (d : Fin 1024) (s : Fin 2048) (hs : s.val = t.val % 4 * 512 + r.val) :
    iblk m c 0 t (ix3 0 r d) = (args m c).x (ix3 (bat t) s d) := by
  unfold args bat; blk_ext [iblk, V, idx t]

theorem V_g (c : Dev nD) : V m c main_v0 = fun i => (args m c).g (ix1 (i 1)) := by
  unfold args V; after_results; funext i; idx_vars i; pointwise
theorem V_w (c : Dev nD) : V m c main_v1 = (args m c).w := by
  unfold args V; after_results; funext i; idx_vars i; pointwise

theorem blk1 (c : Dev nD) (t : Fin cfg0.N) (d : Fin 1024) : iblk m c 1 t (ix2 0 d) = (args m c).g (ix1 d) := by
  refine Eq.trans (b := V m c main_v0 (ix2 0 d)) ?_ (congrFun (V_g m c) _)
  blk_ext [iblk, idx t]

theorem blk2 (c : Dev nD) (t : Fin cfg0.N) (d : Fin 1024) : iblk m c 2 t (ix3 0 0 d) = (args m c).sc (ix3 (bat t) 0 d) := by
  unfold args bat; blk_ext [iblk, V, idx t]

theorem blk3 (c : Dev nD) (t : Fin cfg0.N) (d : Fin 1024) : iblk m c 3 t (ix3 0 0 d) = (args m c).sh (ix3 (bat t) 0 d) := by
  unfold args bat; blk_ext [iblk, V, idx t]

theorem blk4 (c : Dev nD) (t : Fin cfg0.N) (r : Fin 1024) (f : Fin 1536) : iblk m c 4 t (ix2 r f) = (args m c).w (ix2 r f) := by
  refine Eq.trans (b := V m c main_v1 (ix2 r f)) ?_ (congrFun (V_w m c) _)
  blk_ext [iblk, idx t]

/-- The tile's rows, normalised and modulated. -/
theorem hid_apply (c : Dev nD) (t : Fin cfg0.N) (r : Fin 512) (d : Fin 1024) (s : Fin 2048) (hs : s.val = t.val % 4 * 512 + r.val) :
    k0_pay2 (iblk m c 0 t) (iblk m c 1 t) (iblk m c 2 t) (iblk m c 3 t) (ix2 r d) = (args m c).hid (bat t) s d := by
  have hx := fun d => blk0 m c t r d s hs
  unfold Cert.Proj.Args.hid Cert.Mix.inv
  pointwise [k0_pay2]
  simp only [hx, blk1, blk2, blk3]

/-- What the body stores for the first result, from any blocks: the product of the modulated rows with its columns. -/
theorem body5 (x0 : Vec Ideal S1x512x1024 .f32) (x1 : Vec Ideal S1x1024 .f32) (x2 x3 : Vec Ideal S1x1x1024 .f32)
    (x4 : Vec Ideal S1024x1536 .bf16) (e : Fin 1) (r : Fin 512) (f : Fin 512) :
    out0_5 x0 x1 x2 x3 x4 (ix3 e r f)
      = ∑ d : Fin 1024, (k0_pay2 x0 x1 x2 x3 (ix2 r d) : EReal) * (x4 (ix2 d ⟨0 + f.val, by omega⟩) : EReal) := by
  unfold out0_5
  frame_out
  pointwise [k0_pay3]

/-- What a grid point leaves in the tile of the first result. -/
theorem outs5 (c : Dev nD) (t : Fin cfg0.N) (e : Fin 1) (r : Fin 512) (f : Fin 512) (s : Fin 2048) (hs : s.val = t.val % 4 * 512 + r.val) :
    out0_5 (iblk m c 0 t) (iblk m c 1 t) (iblk m c 2 t) (iblk m c 3 t) (iblk m c 4 t) (ix3 e r f)
      = (args m c).out (bat t) s ⟨0 + f.val, by omega⟩ :=
  (body5 _ _ _ _ _ e r f).trans (Finset.sum_congr rfl fun d _ => congrArg₂ (· * ·) (hid_apply m c t r d s hs) (blk4 m c t d _))

/-- The first result's array after the run. -/
theorem final5 (c : Dev nD) :
    (dats m 0 c).arrAt 5 (cfgs 0).N = (args m c).cols 0 512 (by decide) := by
  refine (dats m 0 c).arrAt_eq_of_covers 5 _ (by decide +kernel) fun t _ y => ?_
  blk_simp
  rw [after0_5]
  obtain ⟨e, r, f, rfl⟩ : ∃ (e : Fin 1) (r : Fin 512) (f : Fin 512), y = ix3 e r f := ⟨y 0, y 1, y 2, eq_ix3 y⟩
  have h4 := Nat.mod_lt t.val (show 0 < 4 by decide)
  have key : (ix3 (bat t) ⟨t.val % 4 * 512 + r.val, by omega⟩ f : S32x2048x512.Idx) = (win0_5.blk t).view.emb (ix3 e r f) := by
    unfold bat
    blk_ext [idx t]
  rw [← key]
  exact outs5 m c t e r f ⟨t.val % 4 * 512 + r.val, by omega⟩ rfl

/-- What the body stores for the second result, from any blocks: the product of the modulated rows with its columns. -/
theorem body6 (x0 : Vec Ideal S1x512x1024 .f32) (x1 : Vec Ideal S1x1024 .f32) (x2 x3 : Vec Ideal S1x1x1024 .f32)
    (x4 : Vec Ideal S1024x1536 .bf16) (e : Fin 1) (r : Fin 512) (f : Fin 1024) :
    out0_6 x0 x1 x2 x3 x4 (ix3 e r f)
      = ∑ d : Fin 1024, (k0_pay2 x0 x1 x2 x3 (ix2 r d) : EReal) * (x4 (ix2 d ⟨512 + f.val, by omega⟩) : EReal) := by
  unfold out0_6
  frame_out
  pointwise [k0_pay1]

/-- What a grid point leaves in the tile of the second result. -/
theorem outs6 (c : Dev nD) (t : Fin cfg0.N) (e : Fin 1) (r : Fin 512) (f : Fin 1024) (s : Fin 2048) (hs : s.val = t.val % 4 * 512 + r.val) :
    out0_6 (iblk m c 0 t) (iblk m c 1 t) (iblk m c 2 t) (iblk m c 3 t) (iblk m c 4 t) (ix3 e r f)
      = (args m c).out (bat t) s ⟨512 + f.val, by omega⟩ :=
  (body6 _ _ _ _ _ e r f).trans (Finset.sum_congr rfl fun d _ => congrArg₂ (· * ·) (hid_apply m c t r d s hs) (blk4 m c t d _))

/-- The second result's array after the run. -/
theorem final6 (c : Dev nD) :
    (dats m 0 c).arrAt 6 (cfgs 0).N = (args m c).cols 512 1024 (by decide) := by
  refine (dats m 0 c).arrAt_eq_of_covers 6 _ (by decide +kernel) fun t _ y => ?_
  blk_simp
  rw [after0_6]
  obtain ⟨e, r, f, rfl⟩ : ∃ (e : Fin 1) (r : Fin 512) (f : Fin 1024), y = ix3 e r f := ⟨y 0, y 1, y 2, eq_ix3 y⟩
  have h4 := Nat.mod_lt t.val (show 0 < 4 by decide)
  have key : (ix3 (bat t) ⟨t.val % 4 * 512 + r.val, by omega⟩ f : S32x2048x1024.Idx) = (win0_6.blk t).view.emb (ix3 e r f) := by
    unfold bat
    blk_ext [idx t]
  rw [← key]
  exact outs6 m c t e r f ⟨t.val % 4 * 512 + r.val, by omega⟩ rfl

end Cert.Kernel4Ideal.Value
-- ==== Proof.Proj.CDRef.lean ====
/- What the reference computes for the second layer's input projection: the projection's entries. -/
module
public import proofs.«01_k».proof.Proof.Proj.Spec
public import proofs.«01_k».proof.Proof.Gen.Reference4Ideal.Read
public import Idealize.ShloMosaic.Lib.Pointwise
@[expose] public section
set_option maxRecDepth 16384
noncomputable section
namespace Cert.Reference4Ideal.Value
open Cert.Reference4Ideal Cert.Reference4Ideal.Gen Cert.Reference4Ideal.Read Idealize.ShloMosaic Idealize.ShloMosaic.TcCoe Idealize.SL.Sem
variable (A : Cert.Proj.Args 1536)

theorem hid_apply (b : Fin 32) (s : Fin 2048) (d : Fin 1024) :
    val_main_v18 (F := Ideal) A.x A.g A.sc A.sh (ix3 b s d) = A.hid b s d := by
  unfold Cert.Proj.Args.hid Cert.Mix.inv
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem out_apply (b : Fin 32) (s : Fin 2048) (f : Fin 1536) :
    val_main_v19 (F := Ideal) A.x A.g A.sc A.sh A.w (ix3 b s f) = A.out b s f := by
  have h := fun d => hid_apply A b s d
  unfold Cert.Proj.Args.out
  pointwise [val_main_v19]
  simp only [h]

theorem out21_eq : val_main_v21 (F := Ideal) A.x A.g A.sc A.sh A.w
    = A.cols 0 512 (by decide) := by
  funext i
  obtain ⟨b, s, f, rfl⟩ : ∃ (b : Fin 32) (s : Fin 2048) (f : Fin 512), i = ix3 b s f := ⟨i 0, i 1, i 2, eq_ix3 i⟩
  refine Eq.trans ?_ (out_apply A b s ⟨0 + f.val, by omega⟩)
  pointwise [val_main_v21, val_main_v20]

theorem out22_eq : val_main_v22 (F := Ideal) A.x A.g A.sc A.sh A.w
    = A.cols 512 1024 (by decide) := by
  funext i
  obtain ⟨b, s, f, rfl⟩ : ∃ (b : Fin 32) (s : Fin 2048) (f : Fin 1024), i = ix3 b s f := ⟨i 0, i 1, i 2, eq_ix3 i⟩
  refine Eq.trans ?_ (out_apply A b s ⟨512 + f.val, by omega⟩)
  pointwise [val_main_v22]

end Cert.Reference4Ideal.Value
-- ==== Proof.Ada.Spec.lean ====
/- What the modulation rows are, as plain sums over the extended reals: for each of the four half layers, the gated condition
   times that half layer's matrix plus its bias. -/
module
public import Idealize.ShloMosaic.Lib.Pointwise
@[expose] public section
noncomputable section
namespace Cert.Ada
open Idealize.ShloMosaic

/-- The condition, the matrices and the biases (by layer and half). -/
structure Args where
  c : (⟨2, ![32, 1024]⟩ : Shape).Idx → EReal
  w : (⟨4, ![2, 2, 1024, 3072]⟩ : Shape).Idx → EReal
  b : (⟨3, ![2, 2, 3072]⟩ : Shape).Idx → EReal

/-- One row of the condition times a column of half layer `k`'s matrix. -/
def Args.out (A : Args) (k : Fin 4) (e : Fin 32) (f : Fin 3072) : EReal :=
  (∑ x : Fin 1024, (A.c (ix2 e x) * Ideal.logistic (A.c (ix2 e x))) * A.w (ix4 ⟨k.val / 2, by omega⟩ ⟨k.val % 2, by omega⟩ x f))
    + A.b (ix3 ⟨k.val / 2, by omega⟩ ⟨k.val % 2, by omega⟩ f)

/-- The rows as one array. -/
def Args.rows (A : Args) (i : (⟨3, ![4, 32, 3072]⟩ : Shape).Idx) : EReal := A.out (i 0) (i 1) (i 2)

end Cert.Ada
-- ==== Proof.Ada.Kernel.lean ====
/- The modulation call: its result holds the rows of all four half layers. -/
module
public import proofs.«01_k».proof.Proof.Gen.Kernel5Ideal.Value
public import proofs.«01_k».proof.Proof.Ada.Spec
public import Idealize.ShloMosaic.Lib.Pipeline.ValueKit
@[expose] public section
set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ)

/-- The arguments as the launch finds them. -/
def args (c : Dev nD) : Cert.Ada.Args where
  c := m ((c : Thread nD τ).loc main_arg0)
  w := m ((c : Thread nD τ).loc main_arg1)
  b := m ((c : Thread nD τ).loc main_arg2)

/-- The windows' block indices at every grid point. -/
theorem idx : ∀ t : Fin cfg0.N,
    win0_0.index t = ![0, 0] ∧ win0_1.index t = ![t.val / 3, 0, t.val % 3] ∧ win0_2.index t = ![t.val / 3, 0, t.val % 3] ∧
    win0_3.index t = ![t.val / 3, 0, t.val % 3] ∧ t.val < 12 :=
  (by decide +kernel : ∀ t : Fin grid0.N, _)

/-- A grid point's half layer. -/
def half (t : Fin cfg0.N) : Fin 4 := ⟨t.val / 3, by have := idx t; omega⟩

theorem blk0 (c : Dev nD) (t : Fin cfg0.N) (e : Fin 32) (d : Fin 1024) :
    iblk m c 0 t (ix2 e d) = (args m c).c (ix2 e d) := by
  unfold args; blk_ext [iblk, V, idx t]

theorem V_w (c : Dev nD) : V m c main_v0
    = fun i => (args m c).w (ix4 ⟨(i 0).val / 2, by have := (i 0).isLt; simp at this; omega⟩ ⟨(i 0).val % 2, by omega⟩ (i 1) (i 2)) := by
  unfold args V; after_results; funext i; idx_vars i; pointwise
theorem V_b (c : Dev nD) : V m c main_v2
    = fun i => (args m c).b (ix3 ⟨(i 0).val / 2, by have := (i 0).isLt; simp at this; omega⟩ ⟨(i 0).val % 2, by omega⟩ (i 2)) := by
  unfold args V; after_results; funext i; idx_vars i; pointwise

theorem blk1 (c : Dev nD) (t : Fin cfg0.N) (r d : Fin 1024) (f : Fin 3072) (hf : f.val = t.val % 3 * 1024 + d.val) :
    iblk m c 1 t (ix3 0 r d)
      = (args m c).w (ix4 ⟨(half t).val / 2, by omega⟩ ⟨(half t).val % 2, by omega⟩ r f) := by
  refine Eq.trans (b := V m c main_v0 (ix3 (half t) r f)) ?_ (congrFun (V_w m c) _)
  unfold half
  blk_ext [iblk, idx t]

theorem blk2 (c : Dev nD) (t : Fin cfg0.N) (d : Fin 1024) (f : Fin 3072) (hf : f.val = t.val % 3 * 1024 + d.val) :
    iblk m c 2 t (ix3 0 0 d) = (args m c).b (ix3 ⟨(half t).val / 2, by omega⟩ ⟨(half t).val % 2, by omega⟩ f) := by
  refine Eq.trans (b := V m c main_v2 (ix3 (half t) 0 f)) ?_ (congrFun (V_b m c) _)
  unfold half
  blk_ext [iblk, idx t]

/-- What the body stores, from any blocks. -/
theorem body (x0 : Vec Ideal S32x1024 .f32) (x1 : Vec Ideal S1x1024x1024 .f32) (x2 : Vec Ideal S1x1x1024 .f32)
    (a : Fin 1) (e : Fin 32) (d : Fin 1024) :
    out0_3 x0 x1 x2 (ix3 a e d)
      = (∑ x : Fin 1024, ((x0 (ix2 e x) : EReal) * Ideal.logistic (x0 (ix2 e x))) * (x1 (ix3 0 x d) : EReal)) + (x2 (ix3 0 0 d) : EReal) := by
  unfold out0_3
  frame_out
  pointwise [k0_pay1]

/-- What a grid point leaves in its tile. -/
theorem outs (c : Dev nD) (t : Fin cfg0.N) (a : Fin 1) (e : Fin 32) (d : Fin 1024) (f : Fin 3072) (hf : f.val = t.val % 3 * 1024 + d.val) :
    out0_3 (iblk m c 0 t) (iblk m c 1 t) (iblk m c 2 t) (ix3 a e d) = (args m c).out (half t) e f :=
  (body _ _ _ a e d).trans (congrArg₂ (· + ·) (Finset.sum_congr rfl fun x _ => congrArg₂ (· * ·)
    (congrArg (fun z : EReal => z * Ideal.logistic z) (blk0 m c t e x)) (blk1 m c t x d f hf)) (blk2 m c t d f hf))

/-- The result's array after the run. -/
theorem final (c : Dev nD) : (dats m 0 c).arrAt 3 (cfgs 0).N = (args m c).rows := by
  refine (dats m 0 c).arrAt_eq_of_covers 3 _ (by decide +kernel) fun t _ y => ?_
  blk_simp
  rw [after0_3]
  obtain ⟨a, e, d, rfl⟩ : ∃ (a : Fin 1) (e : Fin 32) (d : Fin 1024), y = ix3 a e d := ⟨y 0, y 1, y 2, eq_ix3 y⟩
  have h3 := Nat.mod_lt t.val (show 0 < 3 by decide)
  have key : (ix3 (half t) e ⟨t.val % 3 * 1024 + d.val, by omega⟩ : S4x32x3072.Idx) = (win0_3.blk t).view.emb (ix3 a e d) := by
    unfold half
    blk_ext [idx t]
  rw [← key]
  exact outs m c t a e d ⟨t.val % 3 * 1024 + d.val, by omega⟩ rfl

end Cert.Kernel5Ideal.Value
-- ==== Proof.Ada.Ref.lean ====
/- What the reference computes for the modulation: the rows of all four half layers. -/
module
public import proofs.«01_k».proof.Proof.Ada.Spec
public import proofs.«01_k».proof.Proof.Gen.Reference5Ideal.Read
public import Idealize.ShloMosaic.Lib.Pointwise
public import Idealize.ShloMosaic.Lib.KernelVsHost
@[expose] public section
set_option maxRecDepth 16384
noncomputable section
namespace Cert.Reference5Ideal.Value
open Cert.Reference5Ideal Cert.Reference5Ideal.Gen Cert.Reference5Ideal.Read Idealize.ShloMosaic Idealize.ShloMosaic.TcCoe Idealize.SL.Sem
variable (A : Cert.Ada.Args)

/-- The gated condition. -/
theorem silu_apply (e : Fin 32) (x : Fin 1024) :
    val_main_v0 (F := Ideal) A.c (ix2 e x) = A.c (ix2 e x) * Ideal.logistic (A.c (ix2 e x)) := by
  pointwise [val_main_v0, val_main_call0_v5, val_main_call0_v4, val_main_call0_v3, val_main_call0_v2, val_main_call0_v1, val_main_call0_v0,
    val_main_call0_cst, val_main_call0_cst_0]
  rfl

theorem rows_apply (k : Fin 4) (e : Fin 32) (f : Fin 3072) :
    val_main_v37 (F := Ideal) A.c A.w A.b (ix3 k e f) = A.out k e f := by
  have h := fun x => silu_apply A e x
  unfold Cert.Ada.Args.out
  fin_cases k
  all_goals pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  all_goals simp only [h]
  all_goals rfl

theorem rows_eq : val_main_v37 (F := Ideal) A.c A.w A.b = A.rows := by
  funext i
  obtain ⟨k, e, f, rfl⟩ : ∃ (k : Fin 4) (e : Fin 32) (f : Fin 3072), i = ix3 k e f := ⟨i 0, i 1, i 2, eq_ix3 i⟩
  exact rows_apply A k e f

end Cert.Reference5Ideal.Value
-- ==== Proof.Conf.Scratch.lean ====
/- What the scratch rows hold when the second loop of the convolution kernel reads them: the padded array of gated
   rows, as one function of the block of the argument. -/
module

public import proofs.«01_k».proof.Proof.Gen.Kernel6Ideal.Frame.Runs
public import Idealize.ShloMosaic.Lib.Pipeline.ValueKit

@[expose] public section

set_option maxRecDepth 16384

noncomputable section

namespace Cert.Kernel6Ideal.Value

open Cert.Kernel6Ideal Cert.Kernel6Ideal.Gen Idealize.ShloMosaic Idealize.ShloMosaic.TcCoe Idealize.SL.Sem

variable {F : FTy → Type} [FloatOps F]
variable (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)

/-- Both loops make 32 trips. -/
theorem trips1 : k0_t1_loop.trips = 32 := by decide +kernel
theorem trips2 : k0_t2_loop.trips = 32 := by decide +kernel

/-- The rows trip `k` of the first loop stores. -/
abbrev gateRect (k : Fin k0_t1_loop.trips) : Rect S2080x512 :=
  Rect.unit (s := S2080x512) (k0_off3 k) S64x512.size (k0_off3_inb k)

/-- The gated rows trip `k` stores: the first half of the channels times the logistic of the second. -/
def gateRows (x0 : Vec F S1x2048x1024 .f32) (k : Fin k0_t1_loop.trips) : Vec F S64x512 .f32 :=
  k0_pay4 (View.ld x0 (Rect.unit (s := S1x2048x1024) (k0_off1 k) S1x64x512.size (k0_off1_inb k)))
    (View.ld x0 (Rect.unit (s := S1x2048x1024) (k0_off2 k) S1x64x512.size (k0_off2_inb k)))

/-- The padded array: sixteen zero rows, the 2048 gated rows, sixteen zero rows. -/
def gated (x0 : Vec F S1x2048x1024 .f32) : Vec F S2080x512 .f32 := fun y =>
  if h : 16 ≤ (y 0).val ∧ (y 0).val < 2064 then
    gateRows x0 ⟨((y 0).val - 16) / 64, by have := trips1; omega⟩ (ix2 (⟨((y 0).val - 16) % 64, Nat.mod_lt _ (by decide)⟩ : Fin 64) (y 1 : Fin 512))
  else Scalar.ofBits .f32 0x00000000#32

theorem off3_eq : ∀ k : Fin k0_t1_loop.trips, k0_off3 k 0 = 16 + 64 * k.val ∧ k0_off3 k 1 = 0 := by decide +kernel

theorem tripL1 (x0 : Vec F S1x2048x1024 .f32) (k : Fin k0_t1_loop.trips) :
    tripL_k0_t1 (F := F) Variants.none c none i arg1 harg1 arg2 harg2 arg3 harg3 arg4 harg4 arg5 harg5 arg6 harg6 arg7 harg7 (harg1.unread x0) k
      = [⟨gateRect k, gateRows x0 k⟩] := by
  unfold tripL_k0_t1 trip_k0_t1
  dsimp only
  simp only [View.readAt_eq_ld, harg1.read_unread]
  rfl

/-- The pieces of the trips before `n` are the pieces of the single trips. -/
theorem mem_pieces1 (x0 : Vec F S1x2048x1024 .f32) (n : Nat) (hn : n ≤ k0_t1_loop.trips) (p : View.Piece (Elt F) S2080x512 .f32) :
    p ∈ pb_k0_t1 (F := F) Variants.none c none i arg1 harg1 arg2 harg2 arg3 harg3 arg4 harg4 arg5 harg5 arg6 harg6 arg7 harg7 (harg1.unread x0) n
      ↔ ∃ k : Fin k0_t1_loop.trips, k.val < n ∧ p = ⟨gateRect k, gateRows x0 k⟩ := by
  induction n with
  | zero => rw [pb_k0_t1.eq_1]; simp
  | succ n ih =>
    rw [pb_k0_t1_succ (k := ⟨n, hn⟩), List.mem_append, ih (by omega), tripL1, List.mem_singleton]
    constructor
    · rintro (rfl | ⟨k, hk, rfl⟩)
      · exact ⟨⟨n, hn⟩, Nat.lt_succ_self n, rfl⟩
      · exact ⟨k, by omega, rfl⟩
    · rintro ⟨k, hk, rfl⟩
      rcases Nat.lt_succ_iff_lt_or_eq.mp hk with h | h
      · exact .inr ⟨k, h, rfl⟩
      · exact .inl (by subst h; rfl)

/-- A trip's rows are the padded array's. -/
theorem gateRows_eq (x0 : Vec F S1x2048x1024 .f32) (k : Fin k0_t1_loop.trips) (z : (gateRect k).shape.Idx) :
    gateRows x0 k z = gated x0 ((gateRect k).emb z) := by
  have h0 : ((gateRect k).emb z 0).val = 16 + 64 * k.val + (z 0).val := by
    rw [← (off3_eq k).1, Rect.emb_apply]; show k0_off3 k 0 + 1 * (z 0).val = _; omega
  have h1 : ((gateRect k).emb z 1).val = (z 1).val := by
    have := (off3_eq k).2
    rw [Rect.emb_apply]; show k0_off3 k 1 + 1 * (z 1).val = _; omega
  have hz : (z 0).val < 64 := (z 0).isLt
  have hk : k.val < 32 := lt_of_lt_of_eq k.isLt trips1
  unfold gated
  rw [dif_pos (by omega)]
  have e1 : (⟨(((gateRect k).emb z 0).val - 16) / 64, by rw [trips1]; omega⟩ : Fin k0_t1_loop.trips) = k := Fin.ext (by simp only; omega)
  rw [e1]
  congr 1
  funext a
  refine Fin.ext ?_
  match a with
  | 0 => show (z 0).val = (((gateRect k).emb z 0).val - 16) % 64; omega
  | 1 => exact h1.symm

/-- Whatever the scratch held, after the two stores of zero rows and the first loop it holds the padded array. -/
theorem scratch_eq (x0 : Vec F S1x2048x1024 .f32) (fs0 : BufTy.Contents (Elt F) arg7.view.ty) :
    arg7.view.writes (Elt F) fs0
      (pb_k0_t1 (F := F) Variants.none c none i arg1 harg1 arg2 harg2 arg3 harg3 arg4 harg4 arg5 harg5 arg6 harg6 arg7 harg7 (harg1.unread x0) (Scf.trips k0_t1_loop.lb k0_t1_loop.ub k0_t1_loop.st)
        ++ [⟨Rect.unit (s := S2080x512) ![2064, 0] S16x512.size inb_S2080x512_S16x512_2064_0, k0_pay3⟩,
          ⟨Rect.unit (s := S2080x512) ![0, 0] S16x512.size inb_S2080x512_S16x512_0_0, k0_pay2⟩])
      = harg7.unread (gated x0) := by
  refine harg7.eq_unread ?_
  funext y
  have hN : Scf.trips k0_t1_loop.lb k0_t1_loop.ub k0_t1_loop.st = k0_t1_loop.trips := rfl
  refine View.read_writes_apply_of_pieces (v := arg7.view) (f := fs0) (gated x0) _ (fun p hp z => ?_) y ?_
  · rcases List.mem_append.mp hp with hp | hp
    · rw [hN] at hp
      obtain ⟨k, -, rfl⟩ := (mem_pieces1 c i arg1 harg1 arg2 harg2 arg3 harg3 arg4 harg4 arg5 harg5 arg6 harg6 arg7 harg7 x0 _ le_rfl p).mp hp
      exact gateRows_eq x0 k z
    · rcases List.mem_cons.mp hp with rfl | hp
      · unfold gated
        rw [dif_neg (by rw [Rect.emb_apply]; show ¬ (16 ≤ 2064 + 1 * (z 0).val ∧ 2064 + 1 * (z 0).val < 2064); omega)]
        rfl
      · obtain rfl := List.mem_singleton.mp hp
        unfold gated
        have hz : (z 0).val < 16 := (z 0).isLt
        rw [dif_neg (by rw [Rect.emb_apply]; show ¬ (16 ≤ 0 + 1 * (z 0).val ∧ 0 + 1 * (z 0).val < 2064); omega)]
        rfl
  · have hy : (y 0).val < 2080 := (y 0).isLt
    have hy1 : (y 1).val < 512 := (y 1).isLt
    by_cases h : 16 ≤ (y 0).val ∧ (y 0).val < 2064
    · have hk : ((y 0).val - 16) / 64 < k0_t1_loop.trips := by rw [trips1]; omega
      refine ⟨_, List.mem_append_left _ ((mem_pieces1 c i arg1 harg1 arg2 harg2 arg3 harg3 arg4 harg4 arg5 harg5 arg6 harg6 arg7 harg7 x0 _ le_rfl _).mpr ⟨⟨_, hk⟩, hk, rfl⟩), ?_⟩
      rw [Rect.mem_set_unit]
      intro a
      match a with
      | 0 => rw [(off3_eq _).1]; show _ ≤ (y 0).val ∧ (y 0).val < _ + 64; simp only; omega
      | 1 => rw [(off3_eq _).2]; show _ ≤ (y 1).val ∧ (y 1).val < _ + 512; omega
    · by_cases h2 : (y 0).val < 16
      · refine ⟨_, List.mem_append_right _ (List.mem_cons_of_mem _ (List.mem_singleton_self _)), ?_⟩
        rw [Rect.mem_set_unit]
        intro a
        match a with
        | 0 => show 0 ≤ (y 0).val ∧ (y 0).val < 0 + 16; omega
        | 1 => show 0 ≤ (y 1).val ∧ (y 1).val < 0 + 512; omega
      · refine ⟨_, List.mem_append_right _ List.mem_cons_self, ?_⟩
        rw [Rect.mem_set_unit]
        intro a
        match a with
        | 0 => show 2064 ≤ (y 0).val ∧ (y 0).val < 2064 + 16; omega
        | 1 => show 0 ≤ (y 1).val ∧ (y 1).val < 0 + 512; omega

end Cert.Kernel6Ideal.Value

end
-- ==== Proof.Conf.Run.lean ====
/- The run of the convolution kernel's body. -/
module

public import proofs.«01_k».proof.Proof.Conf.Scratch

@[expose] public section

set_option maxRecDepth 16384

noncomputable section

namespace Cert.Kernel6Ideal.Value

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run, on whole staging buffers. After the first loop the scratch is the padded array of gated rows
    (`scratch_eq`), so that what the second loop stores into the output's buffer is a function of the five blocks. -/
noncomputable def bodyRun (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)
    (x0 : Vec F S1x2048x1024 .f32) (x1 : Vec F S31x512 .f32) (x2 : Vec F S1x512 .f32) (x3 : Vec F S1x512 .f32) (x4 : Vec F S1x512 .f32) :
    { L5 : List (View.Piece (Elt F) S1x2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_conformer_conv i arg1 harg1 arg2 harg2 arg3 harg3 arg4 harg4 arg5 harg5 arg6 harg6 arg7 harg7) K } := by
  refine ⟨pb_k0_t2 (F := F) Variants.none c none i arg1 harg1 arg2 harg2 arg3 harg3 arg4 harg4 arg5 harg5 arg6 harg6 arg7 harg7 (harg2.unread x1) (harg3.unread x2) (harg4.unread x3) (harg5.unread x4) (harg7.unread (gated x0)) (Scf.trips k0_t2_loop.lb k0_t2_loop.ub k0_t2_loop.st), fun E K => ?run⟩
  case run =>
    simp only [cc0_conformer_conv_eq_skeleton]; unfold cc0_conformer_conv_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    rw [scratch_eq]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS0
    ipureintro; rfl

end Cert.Kernel6Ideal.Value

end
-- ==== Proof.Conf.Frame.lean ====
/- What the convolution kernel leaves in its arrays: the frame of its program. -/
module

public import proofs.«01_k».proof.Proof.Conf.Run
public import Idealize.ShloMosaic.Lib.Claim

@[expose] public section

set_option maxRecDepth 16384

noncomputable section

namespace Cert.Kernel6Ideal.Value

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (32 stores of `S1x64x512`, checked by the kernel's evaluation: Lib/Ring.lean `Piece.tiledL`, linear in the pieces, through a loop's `@[irreducible]` trip theorem too), so they cover it. -/
theorem cover5 (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)
    (x0 : Vec F S1x2048x1024 .f32) (x1 : Vec F S31x512 .f32) (x2 : Vec F S1x512 .f32) (x3 : Vec F S1x512 .f32) (x4 : Vec F S1x512 .f32) (y : S1x2048x512.Idx) :
    ∃ pc ∈ (bodyRun c i arg1 harg1 arg2 harg2 arg3 harg3 arg4 harg4 arg5 harg5 arg6 harg6 arg7 harg7 x0 x1 x2 x3 x4).1, y ∈ pc.1.set :=
  View.cover_of_tiledL (bodyRun c i arg1 harg1 arg2 harg2 arg3 harg3 arg4 harg4 arg5 harg5 arg6 harg6 arg7 harg7 x0 x1 x2 x3 x4).1 S1x64x512.size (by sl_kernel_rfl) y

/-- What the run leaves in output 5's staging buffer: its pieces read back over junk. -/
def out5 (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)
    (x0 : Vec F S1x2048x1024 .f32) (x1 : Vec F S31x512 .f32) (x2 : Vec F S1x512 .f32) (x3 : Vec F S1x512 .f32) (x4 : Vec F S1x512 .f32) : Vec F S1x2048x512 .bf16 :=
  VO0_5.read (Elt F) (VO0_5.writes (Elt F) VO0_5.junk (bodyRun c i arg1 harg1 arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt0 (c : Dev nD) (t : Fin cfg0.N) : Vec F S1x2048x512 .bf16 :=
  out5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out5
  iintro ⟨⟨HS0, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel6Ideal.Value

end
-- ==== Proof.Conf.Bits.lean ====
/- The frame of the convolution kernel over machine numbers: the frame proved for every kind of number, taken at them. -/
module
public import proofs.«01_k».proof.Proof.Conf.Frame
public import proofs.«01_k».proof.Kernel6
public import proofs.«01_k».proof.Defs
@[expose] public section
set_option maxRecDepth 16384
namespace Cert.Kernel6Ideal.Value
open Idealize.ShloMosaic

theorem frame6 [hK : Cert.Kernel6.Facts] : Cert.quiescent_Kernel6 := by
  intro m ρ _
  have h := Cert.Kernel6Ideal.Value.frame (F := Bits) m ρ
  refine Eq.mp ?_ h
  sl_kernel_rfl

end Cert.Kernel6Ideal.Value
-- ==== Proof.Conf.Spec.lean ====
/- What the convolution branch is, as plain sums over the extended reals: the gated channels are convolved along the sequence
   with 31 taps per channel and zero rows at both ends, the 512 channels of a row are normalized, scaled and shifted, and the
   result is multiplied by its logistic. -/
module

public import Idealize.ShloMosaic.Lib.Pointwise

@[expose] public section

noncomputable section

namespace Cert.Conf

open Idealize.ShloMosaic

/-- The mean of a row of 512 numbers. -/
def mean (C : Fin 512 → EReal) : EReal := Ideal.div (∑ x, C x) (Ideal.ofBits FTy.f32 1140850688#32)

/-- A row normalized, then scaled and shifted, then multiplied by its logistic, at one channel. -/
def act (C : Fin 512 → EReal) (g b : EReal) (f : Fin 512) : EReal :=
  ((C f - mean C) * Ideal.rsqrt (mean (fun x => (C x - mean C) * (C x - mean C)) + Ideal.ofBits FTy.f32 925353388#32) * g + b)
    * Ideal.logistic ((C f - mean C) * Ideal.rsqrt (mean (fun x => (C x - mean C) * (C x - mean C)) + Ideal.ofBits FTy.f32 925353388#32) * g + b)

/-- The argument, the taps, the bias, the scale and the shift. -/
structure Args where
  u : (⟨3, ![32, 2048, 1024]⟩ : Shape).Idx → EReal
  w : (⟨2, ![31, 512]⟩ : Shape).Idx → EReal
  b : (⟨1, ![512]⟩ : Shape).Idx → EReal
  g : (⟨1, ![512]⟩ : Shape).Idx → EReal
  s : (⟨1, ![512]⟩ : Shape).Idx → EReal

/-- Row `q` of the gated channels padded by fifteen zero rows at both ends. -/
def Args.row (A : Args) (e : Fin 32) (q : Nat) (f : Fin 512) : EReal :=
  if h : 15 ≤ q ∧ q < 2063 then
    A.u (ix3 e ⟨q - 15, by omega⟩ ⟨f.val, by omega⟩) * Ideal.logistic (A.u (ix3 e ⟨q - 15, by omega⟩ ⟨512 + f.val, by omega⟩))
  else 0

/-- The convolution at one position and channel. -/
def Args.conv (A : Args) (e : Fin 32) (p : Nat) (f : Fin 512) : EReal :=
  (∑ j : Fin 31, A.w (ix2 j f) * A.row e (p + j.val) f) + A.b (ix1 f)

/-- The branch's result. -/
def Args.out (A : Args) (i : (⟨3, ![32, 2048, 512]⟩ : Shape).Idx) : EReal :=
  act (A.conv (i 0) (i 1).val) (A.g (ix1 (i 2 : Fin 512))) (A.s (ix1 (i 2 : Fin 512))) (i 2)

/-- The taps in the order of their distance from the rows of eight they are read from: the same sum. -/
theorem taps_grouped (t : Fin 31 → EReal) (b : EReal) :
    b + t 7 + t 15 + t 23
      + t 0 + t 8 + t 16 + t 24 + t 1 + t 9 + t 17 + t 25 + t 2 + t 10 + t 18 + t 26 + t 3 + t 11 + t 19 + t 27
      + t 4 + t 12 + t 20 + t 28 + t 5 + t 13 + t 21 + t 29 + t 6 + t 14 + t 22 + t 30 = (∑ j, t j) + b := by
  simp only [Fin.sum_univ_succ, Fin.sum_univ_zero, Fin.succ_zero_eq_one]
  show _ = (t 0 + (t 1 + (t 2 + (t 3 + (t 4 + (t 5 + (t 6 + (t 7 + (t 8 + (t 9 + (t 10 + (t 11 + (t 12 + (t 13 + (t 14 + (t 15 + (t 16
    + (t 17 + (t 18 + (t 19 + (t 20 + (t 21 + (t 22 + (t 23 + (t 24 + (t 25 + (t 26 + (t 27 + (t 28 + (t 29 + (t 30 + 0))))))))))))))))))))))))))))))) + b
  abel

/-- The taps in their own order. -/
theorem taps_ordered (t : Fin 31 → EReal) :
    t 0 + t 1 + t 2 + t 3 + t 4 + t 5 + t 6 + t 7 + t 8 + t 9 + t 10 + t 11 + t 12 + t 13 + t 14 + t 15 + t 16
      + t 17 + t 18 + t 19 + t 20 + t 21 + t 22 + t 23 + t 24 + t 25 + t 26 + t 27 + t 28 + t 29 + t 30 = ∑ j, t j := by
  rw [← add_zero (∑ j, t j), ← taps_grouped t 0]
  abel

end Cert.Conf

end
-- ==== Proof.Conf.Tile.lean ====
/- One trip of the convolution kernel's second loop: the 64 rows it stores, in plain sums over the padded rows. -/
module

public import proofs.«01_k».proof.Proof.Conf.Frame
public import proofs.«01_k».proof.Proof.Conf.Spec
public import Idealize.ShloMosaic.Lib.Pipeline.ValueKit
@[expose] public section
set_option maxRecDepth 16384
noncomputable section
namespace Cert.Kernel6Ideal.Value
open Cert.Kernel6Ideal Cert.Kernel6Ideal.Gen Idealize.ShloMosaic Idealize.ShloMosaic.TcCoe Idealize.SL.Sem

variable (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)

/-- Trip `k` starts at row `64 k`. -/
theorem start_eq : ∀ k : Fin k0_t2_loop.trips, BitVec.toNat (Scalar.indexCast (Scalar.muli (Scf.iv 0#32 1#32 k.val) 64#32)) = 64 * k.val := by decide +kernel

/-- The gated rows, elementwise. -/
theorem gate_apply (a b : Vec Ideal S1x64x512 .f32) (r : Fin 64) (l : Fin 512) :
    k0_pay4 a b (ix2 r l) = a (ix3 0 r l) * Ideal.logistic (b (ix3 0 r l)) := by
  pointwise [k0_pay4]

/-- The last step, elementwise. -/
theorem store_apply (a : FVec Ideal S64x512 .f32) (b : FVec Ideal S1x512 .f32) (r : Fin 64) (l : Fin 512) :
    k0_pay5 a b (ix3 0 r l) = (a (ix2 r l) + b (ix2 0 l)) * Ideal.logistic (a (ix2 r l) + b (ix2 0 l)) := by
  pointwise [k0_pay5]

/-- The four groups of 128 channels beside each other, normalized and scaled. -/
theorem norm_apply (C : Fin 512 → EReal) (v0 v1 v2 : Vec Ideal S64x128 .f32) (v666 : Vec Ideal S96x128 .f32) (v676 : Vec Ideal S64x128 .f32)
    (a b : Vec Ideal S1x128 .f32) (g : Vec Ideal S1x512 .f32) (r : Fin 64)
    (h0 : ∀ l : Fin 128, v0 (ix2 r l) = C ⟨l.val, by omega⟩) (h1 : ∀ l : Fin 128, v1 (ix2 r l) = C ⟨128 + l.val, by omega⟩)
    (h2 : ∀ l : Fin 128, v2 (ix2 r l) = C ⟨256 + l.val, by omega⟩)
    (h3 : ∀ l : Fin 128, v676 (ix2 r l) + a (ix2 0 l) * v666 (ix2 ⟨16 + r.val, by omega⟩ l) + b (ix2 0 l) * v666 (ix2 ⟨24 + r.val, by omega⟩ l) = C ⟨384 + l.val, by omega⟩)
    (f : Fin 512) :
    k0_pay49 v0 v1 v2 v666 v676 a b g (ix2 r f)
      = (C f - Conf.mean C) * Ideal.rsqrt (Conf.mean (fun x => (C x - Conf.mean C) * (C x - Conf.mean C)) + Ideal.ofBits FTy.f32 925353388#32) * g (ix2 0 f) := by
  have key : ∀ x : Fin 512,
      (if h : x.val < 128 then v0 (ix2 r ⟨x.val, h⟩)
        else if h : x.val - 128 < 128 then v1 (ix2 r ⟨x.val - 128, h⟩)
        else if h : x.val - 128 - 128 < 128 then v2 (ix2 r ⟨x.val - 128 - 128, h⟩)
        else v676 (ix2 r ⟨x.val - 128 - 128 - 128, by omega⟩)
          + a (ix2 0 ⟨x.val - 128 - 128 - 128, by omega⟩) * v666 (ix2 ⟨16 + r.val, by omega⟩ ⟨x.val - 128 - 128 - 128, by omega⟩)
          + b (ix2 0 ⟨x.val - 128 - 128 - 128, by omega⟩) * v666 (ix2 ⟨24 + r.val, by omega⟩ ⟨x.val - 128 - 128 - 128, by omega⟩)) = C x := by
    intro x
    split_ifs with c0 c1 c2
    · rw [h0]
    · rw [h1]; exact congrArg C (Fin.ext (by simp only; omega))
    · rw [h2]; exact congrArg C (Fin.ext (by simp only; omega))
    · rw [h3]; exact congrArg C (Fin.ext (by simp only; omega))
  pointwise [k0_pay49]
  simp only [key]
  rfl

set_option maxHeartbeats 1600000 in
/-- What trip `k` stores, when the scratch holds `T`'s rows: 31 taps over the rows above and below each row, the four groups of
    128 channels beside each other, normalized over all 512, scaled, shifted and gated. -/
theorem tripL2 (T : Nat → Fin 512 → EReal) (x1 : Vec Ideal S31x512 .f32) (x2 x3 x4 : Vec Ideal S1x512 .f32) (s : Vec Ideal S2080x512 .f32)
    (hs : ∀ (q : Fin 2080) (f : Fin 512), s (ix2 q f) = T q.val f) (k : Fin k0_t2_loop.trips) :
    ∃ v : Vec Ideal S1x64x512 .bf16, (∀ (r : Fin 64) (f : Fin 512), v (ix3 0 r f)
          = Conf.act (fun f => (∑ j : Fin 31, x1 (ix2 j f) * T (64 * k.val + r.val + j.val + 1) f) + x2 (ix2 0 f)) (x3 (ix2 0 f)) (x4 (ix2 0 f)) f)
      ∧ tripL_k0_t2 (F := Ideal) Variants.none c none i arg1 harg1 arg2 harg2 arg3 harg3 arg4 harg4 arg5 harg5 arg6 harg6 arg7 harg7 (harg2.unread x1) (harg3.unread x2) (harg4.unread x3) (harg5.unread x4) (harg7.unread s) k
        = [⟨Rect.unit (s := S1x2048x512) (k0_off8 k) S1x64x512.size (k0_off8_inb k), v⟩] := by
  unfold tripL_k0_t2 trip_k0_t2
  dsimp only
  refine ⟨_, fun r f => ?_, rfl⟩
  sl_unfold_words
  simp only [View.readAt_eq_ld, harg2.read_unread, harg3.read_unread, harg4.read_unread, harg5.read_unread, harg7.read_unread, start_eq]
  rw [store_apply, norm_apply (fun f => (∑ j : Fin 31, x1 (ix2 j f) * T (64 * k.val + r.val + j.val + 1) f) + x2 (ix2 0 f))]
  · pointwise [k0_pay50]
    rfl
  all_goals
    intro l
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
    simp only [hs, start_eq]
    refine Eq.trans ?_ (Conf.taps_grouped _ _)
    repeat' refine congrArg₂ (· + ·) ?_ ?_
    all_goals first
      | rfl
      | exact congrArg₂ (· * ·) rfl (congrFun (congrArg T (by simp; omega)) _)
end Cert.Kernel6Ideal.Value
-- ==== Proof.Conf.Final.lean ====
/- The convolution call: its result holds the branch's value at every position. -/
module

public import proofs.«01_k».proof.Proof.Conf.Tile
public import Idealize.ShloMosaic.Lib.Pipeline.Value

@[expose] public section

set_option maxRecDepth 16384

noncomputable section

namespace Cert.Kernel6Ideal.Value

open Cert.Kernel6Ideal Cert.Kernel6Ideal.Gen Idealize.ShloMosaic Idealize.ShloMosaic.TcCoe Idealize.SL.Sem

section Run

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Run

section Pieces

variable {F : FTy → Type} [FloatOps F]
variable (c : Dev nD) (i : grid0.Coords) (arg1 : Memref sig .tc .vmem S1x2048x1024 .f32) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x2048x512 .bf16) (harg6 : arg6.IsWhole) (arg7 : Memref sig .tc .vmem S2080x512 .f32) (harg7 : arg7.IsWhole)

/-- A piece of the second loop is a piece of one of its trips. -/
theorem mem_pieces2 (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty)
    (n : Nat) (hn : n ≤ k0_t2_loop.trips) (p : View.Piece (Elt F) S1x2048x512 .bf16)
    (hp : p ∈ pb_k0_t2 (F := F) Variants.none c none i arg1 harg1 arg2 harg2 arg3 harg3 arg4 harg4 arg5 harg5 arg6 harg6 arg7 harg7 X2 X3 X4 X5 X7 n) :
    ∃ k : Fin k0_t2_loop.trips, p ∈ tripL_k0_t2 (F := F) Variants.none c none i arg1 harg1 arg2 harg2 arg3 harg3 arg4 harg4 arg5 harg5 arg6 harg6 arg7 harg7 X2 X3 X4 X5 X7 k := by
  induction n with
  | zero => rw [pb_k0_t2.eq_1] at hp; exact absurd hp List.not_mem_nil
  | succ n ih =>
    rw [pb_k0_t2_succ (k := ⟨n, hn⟩)] at hp
    rcases List.mem_append.mp hp with hp | hp
    · exact ⟨_, hp⟩
    · exact ih (by omega) hp

end Pieces

variable (m : (ℓ : Loc nD τ sig) → Buf (Elt Ideal) ℓ)

/-- The arguments as the launch finds them. -/
def args (c : Dev nD) : Cert.Conf.Args where
  u := m ((c : Thread nD τ).loc main_arg0)
  w := m ((c : Thread nD τ).loc main_arg1)
  b := m ((c : Thread nD τ).loc main_arg2)
  g := m ((c : Thread nD τ).loc main_arg3)
  s := m ((c : Thread nD τ).loc main_arg4)

/-- The windows' block indices at every grid point: one sequence each. -/
theorem idx : ∀ t : Fin cfg0.N,
    win0_0.index t = ![t.val, 0, 0] ∧ win0_1.index t = ![0, 0] ∧ win0_2.index t = ![0, 0] ∧ win0_3.index t = ![0, 0] ∧
    win0_4.index t = ![0, 0] ∧ win0_5.index t = ![t.val, 0, 0] ∧ t.val < 32 :=
  (by decide +kernel : ∀ t : Fin grid0.N, _)

/-- A grid point's sequence. -/
def seq (t : Fin cfg0.N) : Fin 32 := ⟨t.val, by have := idx t; omega⟩

theorem V_b (c : Dev nD) : V m c main_v0 = fun i => (args m c).b (ix1 (i 1)) := by
  unfold args V; after_results; funext i; idx_vars i; pointwise
theorem V_g (c : Dev nD) : V m c main_v1 = fun i => (args m c).g (ix1 (i 1)) := by
  unfold args V; after_results; funext i; idx_vars i; pointwise
theorem V_s (c : Dev nD) : V m c main_v2 = fun i => (args m c).s (ix1 (i 1)) := by
  unfold args V; after_results; funext i; idx_vars i; pointwise

theorem blk0 (c : Dev nD) (t : Fin cfg0.N) (p : Fin 2048) (f : Fin 1024) :
    iblk m c 0 t (ix3 0 p f) = (args m c).u (ix3 (seq t) p f) := by
  unfold args seq; blk_ext [iblk, V, idx t]
theorem blk1 (c : Dev nD) (t : Fin cfg0.N) (j : Fin 31) (f : Fin 512) :
    iblk m c 1 t (ix2 j f) = (args m c).w (ix2 j f) := by
  unfold args; blk_ext [iblk, V, idx t]
theorem blk2 (c : Dev nD) (t : Fin cfg0.N) (f : Fin 512) : iblk m c 2 t (ix2 0 f) = (args m c).b (ix1 f) := by
  refine Eq.trans (b := V m c main_v0 (ix2 0 f)) ?_ (congrFun (V_b m c) _)
  blk_ext [iblk, idx t]
theorem blk3 (c : Dev nD) (t : Fin cfg0.N) (f : Fin 512) : iblk m c 3 t (ix2 0 f) = (args m c).g (ix1 f) := by
  refine Eq.trans (b := V m c main_v1 (ix2 0 f)) ?_ (congrFun (V_g m c) _)
  blk_ext [iblk, idx t]
theorem blk4 (c : Dev nD) (t : Fin cfg0.N) (f : Fin 512) : iblk m c 4 t (ix2 0 f) = (args m c).s (ix1 f) := by
  refine Eq.trans (b := V m c main_v2 (ix2 0 f)) ?_ (congrFun (V_s m c) _)
  blk_ext [iblk, idx t]

theorem off1_eq : ∀ k : Fin k0_t1_loop.trips, k0_off1 k = ![0, 64 * k.val, 0] ∧ k0_off2 k = ![0, 64 * k.val, 512] := by decide +kernel
theorem off8_eq : ∀ k : Fin k0_t2_loop.trips, k0_off8 k = ![0, 64 * k.val, 0] := by decide +kernel

theorem gated_pos (x0 : Vec Ideal S1x2048x1024 .f32) (q : Fin 2080) (f : Fin 512) (h : 16 ≤ q.val ∧ q.val < 2064) :
    gated x0 (ix2 q f) = gateRows x0 ⟨(q.val - 16) / 64, by have := trips1; omega⟩ (ix2 (⟨(q.val - 16) % 64, Nat.mod_lt _ (by decide)⟩ : Fin 64) f) :=
  dif_pos h
theorem gated_neg (x0 : Vec Ideal S1x2048x1024 .f32) (q : Fin 2080) (f : Fin 512) (h : ¬ (16 ≤ q.val ∧ q.val < 2064)) :
    gated x0 (ix2 q f) = 0 :=
  (dif_neg h).trans (Ideal.ofBits_zero .f32)

/-- A load of 64 rows reads the block at the row and channel it starts from. -/
theorem ld_rows (x0 : Vec Ideal S1x2048x1024 .f32) (o : Fin 3 → Nat) (inb) (n d : Nat) (ho : o = ![0, n, d]) (r : Fin 64) (f : Fin 512)
    (p : Fin 2048) (l : Fin 1024) (hp : p.val = n + r.val) (hl : l.val = d + f.val) :
    View.ld x0 (Rect.unit (s := S1x2048x1024) o S1x64x512.size inb) (ix3 0 r f) = x0 (ix3 0 p l) := by
  subst ho
  refine congrArg x0 (funext fun a => Fin.ext ?_)
  match a with
  | 0 => rfl
  | 1 => show n + 1 * r.val = p.val; omega
  | 2 => show d + 1 * f.val = l.val; omega

/-- Row `q` of the scratch is row `q - 1` of the padded array: the kernel pads sixteen rows where fifteen are read. -/
theorem gated_apply (A : Cert.Conf.Args) (e : Fin 32) (x0 : Vec Ideal S1x2048x1024 .f32)
    (h0 : ∀ (p : Fin 2048) (f : Fin 1024), x0 (ix3 0 p f) = A.u (ix3 e p f)) (q : Fin 2080) (f : Fin 512) :
    gated x0 (ix2 q f) = A.row e (q.val - 1) f := by
  unfold Cert.Conf.Args.row
  by_cases h : 16 ≤ q.val ∧ q.val < 2064
  · rw [gated_pos _ _ _ h, dif_pos (by omega), gateRows, gate_apply,
      ld_rows x0 _ _ _ _ (off1_eq _).1 _ f ⟨q.val - 1 - 15, by omega⟩ ⟨f.val, by omega⟩ (by simp only; omega) (by simp),
      ld_rows x0 _ _ _ _ (off1_eq _).2 _ f ⟨q.val - 1 - 15, by omega⟩ ⟨512 + f.val, by omega⟩ (by simp only; omega) rfl, h0, h0]
  · rw [gated_neg _ _ _ h, dif_neg (by omega)]

/-- What a grid point leaves in its block. -/
theorem outs (c : Dev nD) (t : Fin cfg0.N) (p : Fin 2048) (f : Fin 512) :
    outsAt0 m c t (ix3 0 p f) = (args m c).out (ix3 (seq t) p f) := by
  unfold outsAt0 out5
  refine View.read_writes_apply_of_pieces (Val := Elt Ideal) (v := VO0_5) (f := VO0_5.junk) (fun y : S1x2048x512.Idx => ((args m c).out (ix3 (seq t) (y 1) (y 2)) : Elt Ideal .bf16)) _
    (fun pc hp z => ?_) _ (cover5 c _ _ _ _ _ _ _ _ _ _ _ _ _ _ _ _ _ _ _ _ _)
  obtain ⟨k, hk⟩ := mem_pieces2 c _ _ _ _ _ _ _ _ _ _ _ _ _ _ _ _ _ _ _ _ _ le_rfl pc hp
  obtain ⟨v, hv, e⟩ := tripL2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun q f => (args m c).row (seq t) (q - 1) f) (iblk m c 1 t) (iblk m c 2 t) (iblk m c 3 t) (iblk m c 4 t) (gated (iblk m c 0 t))
    (gated_apply (args m c) (seq t) (iblk m c 0 t) (blk0 m c t)) k
  rw [e] at hk
  obtain rfl := List.mem_singleton.mp hk
  obtain ⟨a, r, l, rfl⟩ : ∃ (a : Fin 1) (r : Fin 64) (l : Fin 512), z = ix3 a r l := ⟨z 0, z 1, z 2, eq_ix3 z⟩
  obtain rfl : a = 0 := Subsingleton.elim _ _
  have hk : k.val < 32 := lt_of_lt_of_eq k.isLt trips2
  have key : (ix3 0 ⟨64 * k.val + r.val, by omega⟩ l : S1x2048x512.Idx)
      = (Rect.unit (s := S1x2048x512) (k0_off8 k) S1x64x512.size (k0_off8_inb k)).emb (ix3 0 r l) := by
    funext a
    refine Fin.ext ?_
    rw [Rect.emb_apply]
    have := off8_eq k
    match a with
    | 0 => show 0 = k0_off8 k 0 + 1 * 0; rw [this]; rfl
    | 1 => show 64 * k.val + r.val = k0_off8 k 1 + 1 * r.val; rw [this]; show _ = 64 * k.val + _; omega
    | 2 => show l.val = k0_off8 k 2 + 1 * l.val; rw [this]; show _ = 0 + _; omega
  rw [← key]
  refine (hv r l).trans ?_
  rw [blk3, blk4]
  unfold Cert.Conf.Args.out
  refine congrFun (congrArg (fun C => Cert.Conf.act C _ _) (funext fun f => ?_)) l
  rw [blk2]
  refine congrArg₂ (· + ·) (Finset.sum_congr rfl fun j _ => ?_) rfl
  rw [blk1]
  refine congrArg₂ (· * ·) rfl ?_
  exact congrArg (fun n => (args m c).row (seq t) n f) (by simp only; show _ = 64 * k.val + r.val + j.val; omega)

/-- The result's array after the run. -/
theorem final (c : Dev nD) : (dats m 0 c).arrAt 5 (cfgs 0).N = (args m c).out := by
  refine (dats m 0 c).arrAt_eq_of_covers 5 _ (by decide +kernel) fun t _ y => ?_
  blk_simp
  rw [after0_5]
  obtain ⟨a, p, f, rfl⟩ : ∃ (a : Fin 1) (p : Fin 2048) (f : Fin 512), y = ix3 a p f := ⟨y 0, y 1, y 2, eq_ix3 y⟩
  obtain rfl : a = 0 := Subsingleton.elim _ _
  have key : (ix3 (seq t) p f : S32x2048x512.Idx) = (win0_5.blk t).view.emb (ix3 0 p f) := by
    unfold seq
    blk_ext [idx t]
  rw [← key]
  exact outs m c t p f

end Cert.Kernel6Ideal.Value

end
-- ==== Proof.Conf.Ref.lean ====
/- What the reference computes for the convolution branch: the gated rows padded with zeros, their 31 shifted products summed, the
   normalized row, and the result. -/
module
public import proofs.«01_k».proof.Proof.Conf.Spec
public import proofs.«01_k».proof.Proof.Gen.Reference6Ideal.Read
public import Idealize.ShloMosaic.Lib.Pointwise
public import Idealize.ShloMosaic.Lib.KernelVsHost
@[expose] public section
set_option maxRecDepth 16384
noncomputable section
namespace Cert.Reference6Ideal.Value
open Cert.Reference6Ideal Cert.Reference6Ideal.Gen Cert.Reference6Ideal.Read Idealize.ShloMosaic Idealize.ShloMosaic.TcCoe Idealize.SL.Sem
variable (A : Cert.Conf.Args)

/-- The gated channels. -/
theorem gated_apply (e : Fin 32) (q : Fin 2048) (f : Fin 512) :
    val_main_v8 (F := Ideal) A.u (ix3 e q f)
      = A.u (ix3 e q ⟨f.val, by omega⟩) * Ideal.logistic (A.u (ix3 e q ⟨512 + f.val, by omega⟩)) := by
  pointwise [val_main_v8, val_main_v7, val_main_v6, val_main_v5, val_main_v4, val_main_v3, val_main_v2, val_main_v1, val_main_v0,
    val_main_cst, val_main_cst_0]
  rfl

/-- The padded rows. -/
theorem padded_apply (e : Fin 32) (q : Fin 2078) (f : Fin 512) :
    val_main_v9 (F := Ideal) A.u (ix3 e q f) = A.row e q.val f := by
  unfold Cert.Conf.Args.row val_main_v9
  by_cases hq : 15 ≤ q.val ∧ q.val < 2063
  · rw [dif_pos hq, ← gated_apply A e ⟨q.val - 15, by omega⟩ f]
    refine pad_apply_of_inside _ _ _ _ _ _ _ _ (ix3 e ⟨q.val - 15, by omega⟩ f) fun a => ?_
    fin_cases a
    · show e.val = 0 + e.val * 1
      omega
    · show q.val = 15 + (q.val - 15) * 1
      omega
    · show f.val = 0 + f.val * 1
      omega
  · rw [dif_neg hq]
    refine (pad_apply_of_not_inside _ _ _ _ _ _ _ _ 1 fun hin => hq ?_).trans ?_
    · have h1 : 15 ≤ q.val := hin.1
      have h2 : (q.val - 15) / 1 < 2048 := hin.2.2
      omega
    · pointwise [val_main_call0_v0, val_main_c]
      show ((BitVec.toInt 0#32 : ℝ) : EReal) = 0
      norm_num

/-- The convolution. -/
theorem conv_apply (e : Fin 32) (p : Fin 2048) (f : Fin 512) :
    val_main_v230 (F := Ideal) A.u A.w A.b (ix3 e p f) = A.conv e p.val f := by
  have h := padded_apply A
  unfold Cert.Conf.Args.conv
  rw [← Cert.Conf.taps_ordered]
  pointwise [
    val_main_v230, val_main_v229, val_main_v228, val_main_v227, val_main_v226, val_main_v225, val_main_v224, val_main_v223, val_main_v222,
    val_main_v221, val_main_v220, val_main_v219, val_main_v218, val_main_v217, val_main_v216, val_main_v215, val_main_v214, val_main_v213,
    val_main_v212, val_main_v211, val_main_v210, val_main_v209, val_main_v208, val_main_v207, val_main_v206, val_main_v205, val_main_v204,
    val_main_v203, val_main_v202, val_main_v201, val_main_v200, val_main_v199, val_main_v198, val_main_v197, val_main_v196, val_main_v195,
    val_main_v194, val_main_v193, val_main_v192, val_main_v191, val_main_v190, val_main_v189, val_main_v188, val_main_v187, val_main_v186,
    val_main_v185, val_main_v184, val_main_v183, val_main_v182, val_main_v181, val_main_v180, val_main_v179, val_main_v178, val_main_v177,
    val_main_v176, val_main_v175, val_main_v174, val_main_v173, val_main_v172, val_main_v171, val_main_v170, val_main_v169, val_main_v168,
    val_main_v167, val_main_v166, val_main_v165, val_main_v164, val_main_v163, val_main_v162, val_main_v161, val_main_v160, val_main_v159,
    val_main_v158, val_main_v157, val_main_v156, val_main_v155, val_main_v154, val_main_v153, val_main_v152, val_main_v151, val_main_v150,
    val_main_v149, val_main_v148, val_main_v147, val_main_v146, val_main_v145, val_main_v144, val_main_v143, val_main_v142, val_main_v141,
    val_main_v140, val_main_v139, val_main_v138, val_main_v137, val_main_v136, val_main_v135, val_main_v134, val_main_v133, val_main_v132,
    val_main_v131, val_main_v130, val_main_v129, val_main_v128, val_main_v127, val_main_v126, val_main_v125, val_main_v124, val_main_v123,
    val_main_v122, val_main_v121, val_main_v120, val_main_v119, val_main_v118, val_main_v117, val_main_v116, val_main_v115, val_main_v114,
    val_main_v113, val_main_v112, val_main_v111, val_main_v110, val_main_v109, val_main_v108, val_main_v107, val_main_v106, val_main_v105,
    val_main_v104, val_main_v103, val_main_v102, val_main_v101, val_main_v100, val_main_v99, val_main_v98, val_main_v97, val_main_v96,
    val_main_v95, val_main_v94, val_main_v93, val_main_v92, val_main_v91, val_main_v90, val_main_v89, val_main_v88, val_main_v87,
    val_main_v86, val_main_v85, val_main_v84, val_main_v83, val_main_v82, val_main_v81, val_main_v80, val_main_v79, val_main_v78,
    val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60,
    val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_cst_1]
  simp only [h, Nat.add_comm]

theorem row_apply (e : Fin 32) (p : Fin 2048) (f : Fin 512) :
    val_main_v254 (F := Ideal) A.u A.w A.b A.g A.s (ix3 e p f) = A.out (ix3 e p f) := by
  have h := conv_apply A
  unfold Cert.Conf.Args.out Cert.Conf.act Cert.Conf.mean
  pointwise [val_main_v254, val_main_v253, val_main_call1_v5, val_main_call1_v4, val_main_call1_cst_0, val_main_call1_v3,
    val_main_call1_v2, val_main_call1_cst, val_main_call1_v1, val_main_call1_v0, val_main_v252, val_main_v251, val_main_v250,
    val_main_v249, val_main_v248, val_main_v247, val_main_v246, val_main_v245, val_main_v244, val_main_v243, val_main_v242,
    val_main_cst_6, val_main_v241, val_main_v240, val_main_cst_5, val_main_v239, val_main_v238, val_main_cst_4, val_main_v237,
    val_main_v236, val_main_v235, val_main_v234, val_main_v233, val_main_cst_3, val_main_v232, val_main_v231, val_main_cst_2]
  simp only [h]
  rfl

/-- The reference's result. -/
theorem out_eq : val_main_v254 (F := Ideal) A.u A.w A.b A.g A.s = A.out := by
  funext i
  obtain ⟨e, p, f, rfl⟩ : ∃ (e : Fin 32) (p : Fin 2048) (f : Fin 512), i = ix3 e p f := ⟨i 0, i 1, i 2, eq_ix3 i⟩
  exact row_apply A e p f

end Cert.Reference6Ideal.Value
end
-- ==== Proof.Fnet.Spec.lean ====
/- What the Fourier mixing is, as plain sums over the extended reals: the real part of the discrete Fourier transform over the 128
   channels of a group and over the positions, from the tables of cosines and sines, times 1/512. -/
module

public import Idealize.ShloMosaic.Lib.Pointwise

@[expose] public section

noncomputable section

namespace Cert.Fnet

open Idealize.ShloMosaic

/-- The argument, the cosines and sines over positions, the cosines and sines over the channels of a group. -/
structure Args where
  u : (⟨3, ![32, 2048, 512]⟩ : Shape).Idx → EReal
  cs : (⟨2, ![2048, 2048]⟩ : Shape).Idx → EReal
  ss : (⟨2, ![2048, 2048]⟩ : Shape).Idx → EReal
  cd : (⟨2, ![128, 128]⟩ : Shape).Idx → EReal
  sd : (⟨2, ![128, 128]⟩ : Shape).Idx → EReal

/-- A channel of a row transformed by a table over the 128 channels of its group. -/
def Args.chan (A : Args) (T : (⟨2, ![128, 128]⟩ : Shape).Idx → EReal) (e : Fin 32) (p : Fin 2048) (f : Fin 512) : EReal :=
  ∑ d : Fin 128, A.u (ix3 e p ⟨f.val / 128 * 128 + d.val, by omega⟩) * T (ix2 d ⟨f.val % 128, Nat.mod_lt _ (by decide)⟩)

/-- The mixing at one position and channel. -/
def Args.mixed (A : Args) (e : Fin 32) (t : Fin 2048) (f : Fin 512) : EReal :=
  ((∑ s : Fin 2048, A.cs (ix2 t s) * A.chan A.cd e s f) + ∑ s : Fin 2048, -A.ss (ix2 t s) * A.chan A.sd e s f)
    * Ideal.ofBits FTy.f32 989855744#32

/-- The mixing's result. -/
def Args.out (A : Args) (i : (⟨3, ![32, 2048, 512]⟩ : Shape).Idx) : EReal := A.mixed (i 0) (i 1) (i 2)

/-- A sum over 4096 terms by its halves. -/
theorem sum_halves (t : Fin 4096 → EReal) :
    ∑ q, t q = (∑ s : Fin 2048, t ⟨s.val, by omega⟩) + ∑ s : Fin 2048, t ⟨2048 + s.val, by omega⟩ :=
  Fin.sum_univ_add (a := 2048) (b := 2048) t

end Cert.Fnet

end
-- ==== Proof.Fnet.Kernel.lean ====
/- The Fourier mixing call: its result holds the mixing at every position and channel. -/
module

public import proofs.«01_k».proof.Proof.Fnet.Spec
public import proofs.«01_k».proof.Proof.Gen.Kernel7Ideal.Value
public import Idealize.ShloMosaic.Lib.Pipeline.ValueKit

@[expose] public section

set_option maxRecDepth 16384

noncomputable section

namespace Cert.Kernel7Ideal.Value

open Cert.Kernel7Ideal Cert.Kernel7Ideal.Gen Idealize.ShloMosaic Idealize.ShloMosaic.TcCoe Idealize.SL.Sem

/-- What the scratch holds at row `q` and channel `f`: the channels of the group transformed by the cosines in the first 2048 rows,
    by the sines in the others. -/
def chans (x0 : Vec Ideal S1x2048x512 .bf16) (x1 : Vec Ideal S128x256 .bf16) (y : S4096x512.Idx) : EReal :=
  ∑ d : Fin 128, x0 (ix3 0 (⟨(y 0).val % 2048, Nat.mod_lt _ (by decide)⟩ : Fin 2048) (⟨(y 1).val / 128 * 128 + d.val, by have : (y 1).val < 512 := (y 1).isLt; omega⟩ : Fin 512))
    * x1 (ix2 d (⟨(y 0).val / 2048 * 128 + (y 1).val % 128, by have : (y 0).val < 4096 := (y 0).isLt; omega⟩ : Fin 256))

/-- The rows stored in the first half of the scratch, -/
theorem cos_apply (a : Vec Ideal S1x2048x128 .bf16) (b : Vec Ideal S128x256 .bf16) (r : Fin 2048) (l : Fin 128) :
    k0_pay9 a b (ix2 r l) = ∑ d : Fin 128, a (ix3 0 r d) * b (ix2 d ⟨l.val, by omega⟩) := by
  pointwise [k0_pay9, k0_pay8]

/-- and in the second. -/
theorem sin_apply (a : Vec Ideal S1x2048x128 .bf16) (b : Vec Ideal S128x256 .bf16) (r : Fin 2048) (l : Fin 128) :
    k0_pay10 a b (ix2 r l) = ∑ d : Fin 128, a (ix3 0 r d) * b (ix2 d ⟨128 + l.val, by omega⟩) := by
  pointwise [k0_pay10, k0_pay8]

/-- The second product. -/
theorem out_apply (a : Vec Ideal S512x4096 .bf16) (b : Vec Ideal S4096x512 .bf16) (r : Fin 512) (f : Fin 512) :
    k0_pay7 a b (ix3 0 r f) = (∑ q : Fin 4096, a (ix2 r q) * b (ix2 q f)) * Ideal.ofBits FTy.f32 989855744#32 := by
  pointwise [k0_pay7]

/-- A load of the 128 channels from `n` on. -/
theorem ld_group (x0 : Vec Ideal S1x2048x512 .bf16) (n : Nat) (inb) (r : Fin 2048) (l : Fin 128) (h : n + l.val < 512) :
    View.ld x0 (Rect.unit (s := S1x2048x512) ![0, 0, n] ![1, 2048, 128] inb) (ix3 0 r l) = x0 (ix3 0 r ⟨n + l.val, h⟩) := by
  refine congrArg x0 (funext fun a => Fin.ext ?_)
  match a with
  | 0 => rfl
  | 1 => show 0 + 1 * r.val = r.val; omega
  | 2 => show n + 1 * l.val = n + l.val; omega

/-- A load of the whole table. -/
theorem ld_table (x1 : Vec Ideal S128x256 .bf16) (inb) (d : Fin 128) (l : Fin 256) :
    View.ld x1 (Rect.unit (s := S128x256) ![0, 0] ![128, 256] inb) (ix2 d l) = x1 (ix2 d l) := by
  refine congrArg x1 (funext fun a => Fin.ext ?_)
  match a with
  | 0 => show 0 + 1 * d.val = d.val; omega
  | 1 => show 0 + 1 * l.val = l.val; omega

/-- A store of a group's rows holds the scratch's values there: those by the cosines, -/
theorem piece_cos (x0 : Vec Ideal S1x2048x512 .bf16) (x1 : Vec Ideal S128x256 .bf16) (a : Vec Ideal S1x2048x128 .bf16) (b : Vec Ideal S128x256 .bf16)
    (g : Nat) (hg : g < 4) (ha : ∀ (r : Fin 2048) (l : Fin 128), a (ix3 0 r l) = x0 (ix3 0 r ⟨128 * g + l.val, by omega⟩))
    (hb : ∀ (d : Fin 128) (l : Fin 256), b (ix2 d l) = x1 (ix2 d l)) (o : Fin 2 → Nat) (ho : o = ![0, 128 * g]) (inb)
    (z : S2048x128.Idx) :
    k0_pay9 a b z = chans x0 x1 ((Rect.unit (s := S4096x512) o S2048x128.size inb).emb z) := by
  subst ho
  obtain ⟨r, l, rfl⟩ : ∃ (r : Fin 2048) (l : Fin 128), z = ix2 r l := ⟨z 0, z 1, eq_ix2 z⟩
  rw [cos_apply]
  refine Finset.sum_congr rfl fun d _ => ?_
  rw [ha, hb]
  refine congrArg₂ (· * ·) (congrArg x0 ?_) (congrArg x1 ?_)
  · congr 1
    · exact Fin.ext (by show r.val = (0 + 1 * r.val) % 2048; omega)
    · exact Fin.ext (by show 128 * g + d.val = (128 * g + 1 * l.val) / 128 * 128 + d.val; omega)
  · congr 1
    exact Fin.ext (by show l.val = (0 + 1 * r.val) / 2048 * 128 + (128 * g + 1 * l.val) % 128; omega)

/-- and those by the sines. -/
theorem piece_sin (x0 : Vec Ideal S1x2048x512 .bf16) (x1 : Vec Ideal S128x256 .bf16) (a : Vec Ideal S1x2048x128 .bf16) (b : Vec Ideal S128x256 .bf16)
    (g : Nat) (hg : g < 4) (ha : ∀ (r : Fin 2048) (l : Fin 128), a (ix3 0 r l) = x0 (ix3 0 r ⟨128 * g + l.val, by omega⟩))
    (hb : ∀ (d : Fin 128) (l : Fin 256), b (ix2 d l) = x1 (ix2 d l)) (o : Fin 2 → Nat) (ho : o = ![2048, 128 * g]) (inb)
    (z : S2048x128.Idx) :
    k0_pay10 a b z = chans x0 x1 ((Rect.unit (s := S4096x512) o S2048x128.size inb).emb z) := by
  subst ho
  obtain ⟨r, l, rfl⟩ : ∃ (r : Fin 2048) (l : Fin 128), z = ix2 r l := ⟨z 0, z 1, eq_ix2 z⟩
  rw [sin_apply]
  refine Finset.sum_congr rfl fun d _ => ?_
  rw [ha, hb]
  refine congrArg₂ (· * ·) (congrArg x0 ?_) (congrArg x1 ?_)
  · congr 1
    · exact Fin.ext (by show r.val = (2048 + 1 * r.val) % 2048; omega)
    · exact Fin.ext (by show 128 * g + d.val = (128 * g + 1 * l.val) / 128 * 128 + d.val; omega)
  · congr 1
    exact Fin.ext (by show 128 + l.val = (2048 + 1 * r.val) / 2048 * 128 + (128 * g + 1 * l.val) % 128; omega)

section Run

variable (c : Dev nD) (i : grid0.Coords) (arg1 : Memref sig .tc .vmem S1x2048x512 .bf16) (harg1 : arg1.IsWhole) (arg2 : Memref sig .tc .vmem S128x256 .bf16) (harg2 : arg2.IsWhole) (arg3 : Memref sig .tc .vmem S2048x4096 .bf16) (harg3 : arg3.IsWhole) (arg4 : Memref sig .tc .vmem S1x2048x512 .bf16) (harg4 : arg4.IsWhole) (arg5 : Memref sig .tc .vmem S4096x512 .bf16) (harg5 : arg5.IsWhole)
    (x0 : Vec Ideal S1x2048x512 .bf16) (x1 : Vec Ideal S128x256 .bf16) (x2 : Vec Ideal S2048x4096 .bf16)

/-- The scratch after the eight stores. -/
theorem scratch_eq :
    arg5.view.writes (Elt Ideal) arg5.view.junk (kernelRun0_A.sl.HS0_8 (F := Ideal) c arg1 harg1 arg2 harg2 x0 x1)
      = harg5.unread (chans x0 x1) := by
  refine harg5.eq_unread ?_
  funext y
  sl_unfold_words
  simp only [View.readAt_eq_ld, harg1.read_unread, harg2.read_unread]
  refine View.read_writes_apply_of_pieces (Val := Elt Ideal) (v := arg5.view) (f := arg5.view.junk) (chans x0 x1) _ (fun p hp z => ?_) y ?_
  rotate_left
  · exact View.cover_of_tiledL (s := S4096x512) _ ![2048, 128] (by sl_kernel_rfl) y
  simp only [List.mem_cons, List.not_mem_nil, or_false] at hp
  rcases hp with rfl | rfl | rfl | rfl | rfl | rfl | rfl | rfl
  · exact piece_sin x0 x1 _ _ 3 (by decide) (fun r l => ld_group x0 384 _ r l _) (ld_table x1 _) ![2048, 384] rfl inb_S4096x512_S2048x128_2048_384 z
  · exact piece_cos x0 x1 _ _ 3 (by decide) (fun r l => ld_group x0 384 _ r l _) (ld_table x1 _) ![0, 384] rfl inb_S4096x512_S2048x128_0_384 z
  · exact piece_sin x0 x1 _ _ 2 (by decide) (fun r l => ld_group x0 256 _ r l _) (ld_table x1 _) ![2048, 256] rfl inb_S4096x512_S2048x128_2048_256 z
  · exact piece_cos x0 x1 _ _ 2 (by decide) (fun r l => ld_group x0 256 _ r l _) (ld_table x1 _) ![0, 256] rfl inb_S4096x512_S2048x128_0_256 z
  · exact piece_sin x0 x1 _ _ 1 (by decide) (fun r l => ld_group x0 128 _ r l _) (ld_table x1 _) ![2048, 128] rfl inb_S4096x512_S2048x128_2048_128 z
  · exact piece_cos x0 x1 _ _ 1 (by decide) (fun r l => ld_group x0 128 _ r l _) (ld_table x1 _) ![0, 128] rfl inb_S4096x512_S2048x128_0_128 z
  · exact piece_sin x0 x1 _ _ 0 (by decide) (fun r l => ld_group x0 0 _ r l _) (ld_table x1 _) ![2048, 0] rfl inb_S4096x512_S2048x128_2048_0 z
  · exact piece_cos x0 x1 _ _ 0 (by decide) (fun r l => ld_group x0 0 _ r l _) (ld_table x1 _) ![0, 0] rfl inb_S4096x512_S2048x128_0_0 z

/-- The loop makes four trips, each over 512 positions. -/
theorem trips1 : k0_t1_loop.trips = 4 := by decide +kernel
theorem off1_eq : ∀ k : Fin k0_t1_loop.trips, k0_off1 k = ![512 * k.val, 0] ∧ k0_off2 k = ![0, 512 * k.val, 0] := by decide +kernel

/-- What trip `k` stores: its 512 rows of the table times the scratch, scaled. -/
theorem tripL1 (s : Vec Ideal S4096x512 .bf16) (k : Fin k0_t1_loop.trips) :
    ∃ v : Vec Ideal S1x512x512 .bf16,
      (∀ (r f : Fin 512) (t : Fin 2048), t.val = 512 * k.val + r.val →
        v (ix3 0 r f) = (∑ q : Fin 4096, x2 (ix2 t q) * s (ix2 q f)) * Ideal.ofBits FTy.f32 989855744#32)
      ∧ tripL_k0_t1 (F := Ideal) Variants.none c none i arg1 harg1 arg2 harg2 arg3 harg3 arg4 harg4 arg5 harg5 (harg3.unread x2) (harg5.unread s) k
        = [⟨Rect.unit (s := S1x2048x512) (k0_off2 k) S1x512x512.size (k0_off2_inb k), v⟩] := by
  unfold tripL_k0_t1 trip_k0_t1
  dsimp only
  refine ⟨_, fun r f t ht => ?_, rfl⟩
  simp only [View.readAt_eq_ld, harg3.read_unread, harg5.read_unread]
  rw [out_apply]
  refine congrArg (· * _) (Finset.sum_congr rfl fun q _ => ?_)
  refine congrArg₂ (· * ·) (congrArg x2 ?_) (congrArg s ?_) <;> funext a <;> refine Fin.ext ?_
  · have := (off1_eq k).1
    match a with
    | 0 => show k0_off1 k 0 + 1 * r.val = t.val; rw [this]; show 512 * k.val + _ = _; omega
    | 1 => show k0_off1 k 1 + 1 * q.val = q.val; rw [this]; show 0 + _ = _; omega
  · match a with
    | 0 => show 0 + 1 * q.val = q.val; omega
    | 1 => show 0 + 1 * f.val = f.val; omega

/-- A piece of the loop is a piece of one of its trips. -/
theorem mem_pieces1 (X3 : BufTy.Contents (Elt Ideal) arg3.view.ty) (X5 : BufTy.Contents (Elt Ideal) arg5.view.ty)
    (n : Nat) (hn : n ≤ k0_t1_loop.trips) (p : View.Piece (Elt Ideal) S1x2048x512 .bf16)
    (hp : p ∈ pb_k0_t1 (F := Ideal) Variants.none c none i arg1 harg1 arg2 harg2 arg3 harg3 arg4 harg4 arg5 harg5 X3 X5 n) :
    ∃ k : Fin k0_t1_loop.trips, p ∈ tripL_k0_t1 (F := Ideal) Variants.none c none i arg1 harg1 arg2 harg2 arg3 harg3 arg4 harg4 arg5 harg5 X3 X5 k := by
  induction n with
  | zero => rw [pb_k0_t1.eq_1] at hp; exact absurd hp List.not_mem_nil
  | succ n ih =>
    rw [pb_k0_t1_succ (k := ⟨n, hn⟩)] at hp
    rcases List.mem_append.mp hp with hp | hp
    · exact ⟨_, hp⟩
    · exact ih (by omega) hp

/-- The body's stores are the loop's, over the scratch. -/
theorem pieces_eq :
    (kernelRun0_A c i arg1 harg1 arg2 harg2 arg3 harg3 arg4 harg4 arg5 harg5 x0 x1 x2).1
      = pb_k0_t1 (F := Ideal) Variants.none c none i arg1 harg1 arg2 harg2 arg3 harg3 arg4 harg4 arg5 harg5 (harg3.unread x2) (harg5.unread (chans x0 x1)) k0_t1_loop.trips := by
  rw [← scratch_eq c arg1 harg1 arg2 harg2 arg5 harg5 x0 x1]
  unfold kernelRun0_A
  rfl

end Run

variable (m : (ℓ : Loc nD τ sig) → Buf (Elt Ideal) ℓ)

/-- The arguments as the launch finds them. -/
def args (c : Dev nD) : Cert.Fnet.Args where
  u := m ((c : Thread nD τ).loc main_arg0)
  cs := m ((c : Thread nD τ).loc main_arg1)
  ss := m ((c : Thread nD τ).loc main_arg2)
  cd := m ((c : Thread nD τ).loc main_arg3)
  sd := m ((c : Thread nD τ).loc main_arg4)

/-- The windows' block indices at every grid point: one sequence each. -/
theorem idx : ∀ t : Fin cfg0.N,
    win0_0.index t = ![t.val, 0, 0] ∧ win0_1.index t = ![0, 0] ∧ win0_2.index t = ![0, 0] ∧ win0_3.index t = ![t.val, 0, 0] ∧ t.val < 32 :=
  (by decide +kernel : ∀ t : Fin grid0.N, _)

/-- A grid point's sequence. -/
def seq (t : Fin cfg0.N) : Fin 32 := ⟨t.val, by have := idx t; omega⟩

/-- The tables beside each other. -/
theorem V_f (c : Dev nD) : V m c main_v2 = fun i : S2048x4096.Idx =>
    if h : (i 1).val < 2048 then (args m c).cs (ix2 (i 0 : Fin 2048) (⟨(i 1).val, h⟩ : Fin 2048))
    else -(args m c).ss (ix2 (i 0 : Fin 2048) (⟨(i 1).val - 2048, by have : (i 1).val < 4096 := (i 1).isLt; omega⟩ : Fin 2048)) := by
  unfold args V; after_results; funext i; idx_vars i; pointwise
theorem V_c (c : Dev nD) : V m c main_v4 = fun i : S128x256.Idx =>
    if h : (i 1).val < 128 then (args m c).cd (ix2 (i 0 : Fin 128) (⟨(i 1).val, h⟩ : Fin 128))
    else (args m c).sd (ix2 (i 0 : Fin 128) (⟨(i 1).val - 128, by have : (i 1).val < 256 := (i 1).isLt; omega⟩ : Fin 128)) := by
  unfold args V; after_results; funext i; idx_vars i; pointwise

theorem blk0 (c : Dev nD) (t : Fin cfg0.N) (p : Fin 2048) (f : Fin 512) :
    iblk m c 0 t (ix3 0 p f) = (args m c).u (ix3 (seq t) p f) := by
  unfold args seq; blk_ext [iblk, V, idx t]
theorem blk1 (c : Dev nD) (t : Fin cfg0.N) (d : Fin 128) (l : Fin 256) :
    iblk m c 1 t (ix2 d l) = if h : l.val < 128 then (args m c).cd (ix2 d ⟨l.val, h⟩) else (args m c).sd (ix2 d ⟨l.val - 128, by omega⟩) := by
  refine Eq.trans (b := V m c main_v4 (ix2 d l)) ?_ (congrFun (V_c m c) _)
  blk_ext [iblk, idx t]
theorem blk2 (c : Dev nD) (t : Fin cfg0.N) (p : Fin 2048) (q : Fin 4096) :
    iblk m c 2 t (ix2 p q) = if h : q.val < 2048 then (args m c).cs (ix2 p ⟨q.val, h⟩) else -(args m c).ss (ix2 p ⟨q.val - 2048, by omega⟩) := by
  refine Eq.trans (b := V m c main_v2 (ix2 p q)) ?_ (congrFun (V_f m c) _)
  blk_ext [iblk, idx t]

/-- The scratch's two halves. -/
theorem chans_cos (c : Dev nD) (t : Fin cfg0.N) (s : Fin 2048) (f : Fin 512) :
    chans (iblk m c 0 t) (iblk m c 1 t) (ix2 (⟨s.val, by omega⟩ : Fin 4096) f) = (args m c).chan (args m c).cd (seq t) s f := by
  refine Finset.sum_congr rfl fun d _ => ?_
  rw [blk0, blk1, dif_pos (by show s.val / 2048 * 128 + f.val % 128 < 128; omega)]
  refine congrArg₂ (· * ·) (congrArg (args m c).u ?_) (congrArg (args m c).cd ?_)
  · exact congrArg (fun x => ix3 (seq t) x _) (Fin.ext (by show s.val % 2048 = s.val; omega))
  · exact congrArg (ix2 d) (Fin.ext (by show s.val / 2048 * 128 + f.val % 128 = f.val % 128; omega))
theorem chans_sin (c : Dev nD) (t : Fin cfg0.N) (s : Fin 2048) (f : Fin 512) :
    chans (iblk m c 0 t) (iblk m c 1 t) (ix2 (⟨2048 + s.val, by omega⟩ : Fin 4096) f) = (args m c).chan (args m c).sd (seq t) s f := by
  refine Finset.sum_congr rfl fun d _ => ?_
  rw [blk0, blk1, dif_neg (by show ¬ ((2048 + s.val) / 2048 * 128 + f.val % 128 < 128); omega)]
  refine congrArg₂ (· * ·) (congrArg (args m c).u ?_) (congrArg (args m c).sd ?_)
  · exact congrArg (fun x => ix3 (seq t) x _) (Fin.ext (by show (2048 + s.val) % 2048 = s.val; omega))
  · exact congrArg (ix2 d) (Fin.ext (by show (2048 + s.val) / 2048 * 128 + f.val % 128 - 128 = f.val % 128; omega))

/-- What a grid point leaves in its block. -/
theorem outs (c : Dev nD) (t : Fin cfg0.N) (p : Fin 2048) (f : Fin 512) :
    outsAt0 m c t (ix3 0 p f) = (args m c).out (ix3 (seq t) p f) := by
  unfold outsAt0 out0_A_3
  refine View.read_writes_apply_of_pieces (Val := Elt Ideal) (v := VO0_3) (f := VO0_3.junk) (fun y : S1x2048x512.Idx => ((args m c).out (ix3 (seq t) (y 1) (y 2)) : Elt Ideal .bf16)) _
    (fun pc hp z => ?_) _ (cover0_A_3 c _ _ _ _ _ _ _ _ _ _ _ _ _ _ _)
  rw [pieces_eq] at hp
  obtain ⟨k, hk⟩ := mem_pieces1 c _ _ _ _ _ _ _ _ _ _ _ _ _ _ le_rfl pc hp
  obtain ⟨v, hv, e⟩ := tripL1 c (grid0.coords t) (ms0_0 t) (hs0_0 t) (ms0_1 t) (hs0_1 t) (ms0_2 t) (hs0_2 t) (ms0_3 t) (hs0_3 t) scM0_0 (Memref.isWhole_whole _)
    (iblk m c 2 t) (chans (iblk m c 0 t) (iblk m c 1 t)) k
  rw [e] at hk
  obtain rfl := List.mem_singleton.mp hk
  obtain ⟨a, r, l, rfl⟩ : ∃ (a : Fin 1) (r : Fin 512) (l : Fin 512), z = ix3 a r l := ⟨z 0, z 1, z 2, eq_ix3 z⟩
  obtain rfl : a = 0 := Subsingleton.elim _ _
  have hk : k.val < 4 := lt_of_lt_of_eq k.isLt trips1
  have key : (ix3 0 ⟨512 * k.val + r.val, by omega⟩ l : S1x2048x512.Idx)
      = (Rect.unit (s := S1x2048x512) (k0_off2 k) S1x512x512.size (k0_off2_inb k)).emb (ix3 0 r l) := by
    funext a
    refine Fin.ext ?_
    rw [Rect.emb_apply]
    have := (off1_eq k).2
    match a with
    | 0 => show 0 = k0_off2 k 0 + 1 * 0; rw [this]; rfl
    | 1 => show 512 * k.val + r.val = k0_off2 k 1 + 1 * r.val; rw [this]; show _ = 512 * k.val + _; omega
    | 2 => show l.val = k0_off2 k 2 + 1 * l.val; rw [this]; show _ = 0 + _; omega
  rw [← key]
  refine (hv r l ⟨512 * k.val + r.val, by omega⟩ rfl).trans ?_
  refine congrArg (· * _) ((Cert.Fnet.sum_halves _).trans ?_)
  refine congrArg₂ (· + ·) (Finset.sum_congr rfl fun s _ => ?_) (Finset.sum_congr rfl fun s _ => ?_)
  · rw [blk2, dif_pos s.isLt, chans_cos]
    rfl
  · rw [blk2, dif_neg (by simp), chans_sin]
    refine congrArg (fun x => -(args m c).ss (ix2 _ x) * _) (Fin.ext (by simp))

/-- The result's array after the run. -/
theorem final (c : Dev nD) : (dats m 0 c).arrAt 3 (cfgs 0).N = (args m c).out := by
  refine (dats m 0 c).arrAt_eq_of_covers 3 _ (by decide +kernel) fun t _ y => ?_
  blk_simp
  rw [after0_3]
  obtain ⟨a, p, f, rfl⟩ : ∃ (a : Fin 1) (p : Fin 2048) (f : Fin 512), y = ix3 a p f := ⟨y 0, y 1, y 2, eq_ix3 y⟩
  obtain rfl : a = 0 := Subsingleton.elim _ _
  have key : (ix3 (seq t) p f : S32x2048x512.Idx) = (win0_3.blk t).view.emb (ix3 0 p f) := by
    unfold seq
    blk_ext [idx t]
  rw [← key]
  exact outs m c t p f

end Cert.Kernel7Ideal.Value

end
-- ==== Proof.Fnet.Ref.lean ====
/- What the reference computes for the Fourier mixing: the transform of the channels of each group, then of the positions. -/
module
public import proofs.«01_k».proof.Proof.Fnet.Spec
public import proofs.«01_k».proof.Proof.Gen.Reference7Ideal.Read
public import Idealize.ShloMosaic.Lib.Pointwise
public import Idealize.ShloMosaic.Lib.KernelVsHost
@[expose] public section
set_option maxRecDepth 16384
noncomputable section
namespace Cert.Reference7Ideal.Value
open Cert.Reference7Ideal Cert.Reference7Ideal.Gen Cert.Reference7Ideal.Read Idealize.ShloMosaic Idealize.ShloMosaic.TcCoe Idealize.SL.Sem
variable (A : Cert.Fnet.Args)

/-- The channels by the cosines. -/
theorem cos_apply (e : Fin 32) (p : Fin 2048) (f : Fin 512) :
    val_main_v3 (F := Ideal) A.u A.cd (ix3 e p f) = A.chan A.cd e p f := by
  unfold Cert.Fnet.Args.chan
  pointwise [val_main_v3, val_main_v2, val_main_v1, val_main_v0]

/-- The channels by the sines. -/
theorem sin_apply (e : Fin 32) (p : Fin 2048) (f : Fin 512) :
    val_main_v8 (F := Ideal) A.u A.sd (ix3 e p f) = A.chan A.sd e p f := by
  unfold Cert.Fnet.Args.chan
  pointwise [val_main_v8, val_main_v7, val_main_v1, val_main_v0]

theorem mixed_apply (e : Fin 32) (t : Fin 2048) (f : Fin 512) :
    val_main_v14 (F := Ideal) A.u A.cs A.ss A.cd A.sd (ix3 e t f) = A.mixed e t f := by
  have hc := cos_apply A
  have hs := sin_apply A
  unfold Cert.Fnet.Args.mixed
  pointwise [val_main_v14, val_main_v13, val_main_v12, val_main_cst, val_main_v11, val_main_v10, val_main_v9, val_main_v6, val_main_v5, val_main_v4]
  simp only [hc, hs]
  simp only [mul_comm]

/-- The reference's result. -/
theorem out_eq : val_main_v14 (F := Ideal) A.u A.cs A.ss A.cd A.sd = A.out := by
  funext i
  obtain ⟨e, t, f, rfl⟩ : ∃ (e : Fin 32) (t : Fin 2048) (f : Fin 512), i = ix3 e t f := ⟨i 0, i 1, i 2, eq_ix3 i⟩
  exact mixed_apply A e t f

end Cert.Reference7Ideal.Value
end
-- ==== Proof.lean ====
/- The certificate: for each of the calls, the frames of its three programs, the idealised kernel as the kernel with floats
   read as extended reals, and the equation between the kernel's results and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Mix.Final
public import proofs.«01_k».proof.Proof.Mix.Ref
public import proofs.«01_k».proof.Proof.Mix2.Final
public import proofs.«01_k».proof.Proof.Mix2.Ref
public import proofs.«01_k».proof.Proof.Proj.AB
public import proofs.«01_k».proof.Proof.Proj.ABRef
public import proofs.«01_k».proof.Proof.Proj.CD
public import proofs.«01_k».proof.Proof.Proj.CDRef
public import proofs.«01_k».proof.Proof.Ada.Kernel
public import proofs.«01_k».proof.Proof.Ada.Ref
public import proofs.«01_k».proof.Proof.Conf.Bits
public import proofs.«01_k».proof.Proof.Conf.Final
public import proofs.«01_k».proof.Proof.Conf.Ref
public import proofs.«01_k».proof.Proof.Fnet.Kernel
public import proofs.«01_k».proof.Proof.Fnet.Ref
public import Idealize.ShloMosaic.Lib.Claim
public import Idealize.ShloMosaic.Lib.Quiescent

@[expose] public section

noncomputable section

namespace Cert.Proof

open Idealize.ShloMosaic Idealize.SL.Sem

/-- The reference terminates with its arguments unchanged; it has no semaphores. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The kernel's result is the reference's, from the same arguments: both are the plain statement. -/
theorem mix_algebraic : Cert.algebraic_KernelIdeal_ReferenceIdeal := by
  pair_intro
  · run_from Cert.KernelIdeal.Value.run_blocks m g
  · run_from Cert.ReferenceIdeal.Value.run m' g'
    obtain ⟨h0, h1, h2, h3, h4, h5, h6, h7, h8, h9, h10, h11, h12, h13⟩ := hagree c
    refine (Cert.ReferenceIdeal.Read.val_main_v71_eq m' c).trans ?_
    rw [h0, h1, h2, h3, h4, h5, h6, h7, h8, h9, h10, h11, h12, h13]
    exact (Cert.ReferenceIdeal.Value.out_eq (Cert.KernelIdeal.Value.args m c)).trans (Cert.KernelIdeal.Value.final m c).symm

theorem reference2_frame : Cert.quiescent_Reference2Ideal := fun m g _ =>
  (θ_run _ _ _).mono (fun r h => ⟨fun c => (h c).2, sem_eq_zero_of_no_sems (by decide) r.2⟩) (Cert.Reference2Ideal.Value.run m g)

/-- The call without the final norm. -/
theorem mix2_algebraic : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9, h10, h11, h12, h13⟩ := hagree c
    refine (Cert.Reference2Ideal.Read.val_main_v58_eq m' c).trans ?_
    rw [h0, h1, h2, h3, h4, h5, h6, h7, h8, h9, h10, h11, h12]
    exact (Cert.Reference2Ideal.Value.out_eq (Cert.KernelIdeal.Value.args (Cert.Kernel2Ideal.Value.same m) c)).trans (Cert.Kernel2Ideal.Value.final m c).symm

theorem reference3_frame : Cert.quiescent_Reference3Ideal := fun m g _ =>
  (θ_run _ _ _).mono (fun r h => ⟨fun c => (h c).2.2, sem_eq_zero_of_no_sems (by decide) r.2⟩) (Cert.Reference3Ideal.Value.run m g)

/-- The first layer's input projection. -/
theorem ab_algebraic : Cert.algebraic_Kernel3Ideal_Reference3Ideal := by
  pair_intro
  · run_from Cert.Kernel3Ideal.Value.run_blocks m g
  · run_from Cert.Reference3Ideal.Value.run m' g'
    · refine (Cert.Reference3Ideal.Read.val_main_v20_eq _ _ _ _ _).trans ?_
      exact (Cert.Reference3Ideal.Value.out20_eq (Cert.Kernel3Ideal.Value.args m c)).trans (Cert.Kernel3Ideal.Value.final5 m c).symm
    · refine (Cert.Reference3Ideal.Read.val_main_v21_eq _ _ _ _ _).trans ?_
      exact (Cert.Reference3Ideal.Value.out21_eq (Cert.Kernel3Ideal.Value.args m c)).trans (Cert.Kernel3Ideal.Value.final6 m c).symm

theorem reference4_frame : Cert.quiescent_Reference4Ideal := fun m g _ =>
  (θ_run _ _ _).mono (fun r h => ⟨fun c => (h c).2.2, sem_eq_zero_of_no_sems (by decide) r.2⟩) (Cert.Reference4Ideal.Value.run m g)

/-- The second layer's input projection. -/
theorem cd_algebraic : Cert.algebraic_Kernel4Ideal_Reference4Ideal := by
  pair_intro
  · run_from Cert.Kernel4Ideal.Value.run_blocks m g
  · run_from Cert.Reference4Ideal.Value.run m' g'
    · refine (Cert.Reference4Ideal.Read.val_main_v21_eq _ _ _ _ _).trans ?_
      exact (Cert.Reference4Ideal.Value.out21_eq (Cert.Kernel4Ideal.Value.args m c)).trans (Cert.Kernel4Ideal.Value.final5 m c).symm
    · refine (Cert.Reference4Ideal.Read.val_main_v22_eq _ _ _ _ _).trans ?_
      exact (Cert.Reference4Ideal.Value.out22_eq (Cert.Kernel4Ideal.Value.args m c)).trans (Cert.Kernel4Ideal.Value.final6 m c).symm

theorem reference5_frame : Cert.quiescent_Reference5Ideal := fun m g _ =>
  (θ_run _ _ _).mono (fun r h => ⟨fun c => (h c).2, sem_eq_zero_of_no_sems (by decide) r.2⟩) (Cert.Reference5Ideal.Value.run m g)

/-- The modulation rows. -/
theorem ada_algebraic : Cert.algebraic_Kernel5Ideal_Reference5Ideal := by
  pair_intro
  · run_from Cert.Kernel5Ideal.Value.run_blocks m g
  · run_from Cert.Reference5Ideal.Value.run m' g'
    obtain ⟨h0, h1, h2⟩ := hagree c
    refine (Cert.Reference5Ideal.Read.val_main_v37_eq _ _ _).trans ?_
    simp only [h0, h1, h2]
    exact (Cert.Reference5Ideal.Value.rows_eq (Cert.Kernel5Ideal.Value.args m c)).trans (Cert.Kernel5Ideal.Value.final m c).symm

theorem reference6_frame : Cert.quiescent_Reference6Ideal := fun m g _ =>
  (θ_run _ _ _).mono (fun r h => ⟨fun c => (h c).2, sem_eq_zero_of_no_sems (by decide) r.2⟩) (Cert.Reference6Ideal.Value.run m g)

/-- The convolution branch. -/
theorem conf_algebraic : Cert.algebraic_Kernel6Ideal_Reference6Ideal := by
  pair_intro
  · run_from Cert.Kernel6Ideal.Value.run_blocks m g
  · run_from Cert.Reference6Ideal.Value.run m' g'
    obtain ⟨h0, h1, h2, h3, h4⟩ := hagree c
    refine (Cert.Reference6Ideal.Read.val_main_v254_eq _).trans ?_
    simp only [h0, h1, h2, h3, h4]
    exact (Cert.Reference6Ideal.Value.out_eq (Cert.Kernel6Ideal.Value.args m c)).trans (Cert.Kernel6Ideal.Value.final m c).symm

theorem reference7_frame : Cert.quiescent_Reference7Ideal := fun m g _ =>
  (θ_run _ _ _).mono (fun r h => ⟨fun c => (h c).2, sem_eq_zero_of_no_sems (by decide) r.2⟩) (Cert.Reference7Ideal.Value.run m g)

/-- The Fourier mixing. -/
theorem fnet_algebraic : Cert.algebraic_Kernel7Ideal_Reference7Ideal := by
  pair_intro
  · run_from Cert.Kernel7Ideal.Value.run_blocks m g
  · run_from Cert.Reference7Ideal.Value.run m' g'
    refine (Cert.Reference7Ideal.Read.val_main_v14_eq _ _ _ _ _).trans ?_
    exact (Cert.Reference7Ideal.Value.out_eq (Cert.Kernel7Ideal.Value.args m c)).trans (Cert.Kernel7Ideal.Value.final m c).symm

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m g _ => Cert.Kernel.Gen.frame m g, fun m g _ => Cert.KernelIdeal.Gen.frame m g, reference_frame,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  Cert.Kernel6Ideal.Value.frame6, fun m g _ => Cert.Kernel6Ideal.Value.frame m g, reference6_frame,
  fun m g _ => Cert.Kernel7.Gen.frame m g, fun m g _ => Cert.Kernel7Ideal.Gen.frame m g, reference7_frame,
  trivial, mix_algebraic, trivial, mix2_algebraic, trivial, ab_algebraic, trivial, cd_algebraic, trivial, ada_algebraic, trivial, conf_algebraic, trivial, fnet_algebraic⟩

end Cert.Proof

end
